-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_768" .f32 0x3AAAAAAB#32 ((1 / 768 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x32768 : Shape := ⟨2, ![32, 32768]⟩
abbrev S512x256x3 : Shape := ⟨3, ![512, 256, 3]⟩
abbrev S_ : Shape := ⟨0, ![]⟩

class Facts : Prop where
  bcast_S_S32x32768 : S_.BroadcastsInDim S32x32768 (![] : Fin 0 → Fin S32x32768.rank)
  reducesTo_S32x32768_S_d0_1 : S32x32768.ReducesTo [0, 1] S_
  h_S_ : 0 < S_.numel
  bcast_S_S512x256x3 : S_.BroadcastsInDim S512x256x3 (![] : Fin 0 → Fin S512x256x3.rank)
  reducesTo_S512x256x3_S_d0_1_2 : S512x256x3.ReducesTo [0, 1, 2] S_

variable [Facts]

def fn {F : FTy → Type} [FloatOps F] (main_arg0 : FVec F S32x32768 .f32) (main_arg1 : FVec F S512x256x3 .f32) (main_arg2 : FVec F S512x256x3 .f32) : IVec S_ 1 :=
  let main_v0 : FVec F S32x32768 .f32 := Host.absf main_arg0
  let main_cst : FVec F S_ .f32 := constant S_ .f32 0x7F800000#32
  let main_v1 : FVec F S32x32768 .f32 := broadcastInDim S32x32768 ![] bcast_S_S32x32768 main_cst
  let main_v2 : IVec S32x32768 1 := cmpf .olt main_v0 main_v1
  let main_c : IVec S_ 1 := constantI S_ 1 1#1
  let main_v3 : IVec S_ 1 := (fun x v => Host.reduce IntOp.andi x v reducesTo_S32x32768_S_d0_1 h_S_) main_v2 main_c
  let main_v4 : FVec F S512x256x3 .f32 := Host.absf main_arg1
  let main_cst_0 : FVec F S_ .f32 := constant S_ .f32 0x7F800000#32
  let main_v5 : FVec F S512x256x3 .f32 := broadcastInDim S512x256x3 ![] bcast_S_S512x256x3 main_cst_0
  let main_v6 : IVec S512x256x3 1 := cmpf .olt main_v4 main_v5
  let main_c_1 : IVec S_ 1 := constantI S_ 1 1#1
  let main_v7 : IVec S_ 1 := (fun x v => Host.reduce IntOp.andi x v reducesTo_S512x256x3_S_d0_1_2 h_S_) main_v6 main_c_1
  let main_v8 : IVec S_ 1 := andi main_v3 main_v7
  let main_v9 : FVec F S512x256x3 .f32 := Host.absf main_arg2
  let main_cst_2 : FVec F S_ .f32 := constant S_ .f32 0x7F800000#32
  let main_v10 : FVec F S512x256x3 .f32 := broadcastInDim S512x256x3 ![] bcast_S_S512x256x3 main_cst_2
  let main_v11 : IVec S512x256x3 1 := cmpf .olt main_v9 main_v10
  let main_c_3 : IVec S_ 1 := constantI S_ 1 1#1
  let main_v12 : IVec S_ 1 := (fun x v => Host.reduce IntOp.andi x v reducesTo_S512x256x3_S_d0_1_2 h_S_) main_v11 main_c_3
  let main_v13 : IVec S_ 1 := andi main_v8 main_v12
  main_v13
-- ==== Kernel.lean ====
abbrev S32x32768 : Shape := ⟨2, ![32, 32768]⟩
abbrev S512x256x3 : Shape := ⟨3, ![512, 256, 3]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S32x128x256 : Shape := ⟨3, ![32, 128, 256]⟩
abbrev S3x512x256 : Shape := ⟨3, ![3, 512, 256]⟩
abbrev S1536x256 : Shape := ⟨2, ![1536, 256]⟩
abbrev S128x256 : Shape := ⟨2, ![128, 256]⟩
abbrev S32x1x512 : Shape := ⟨3, ![32, 1, 512]⟩
abbrev S1x128x256 : Shape := ⟨3, ![1, 128, 256]⟩
abbrev S1x1x512 : Shape := ⟨3, ![1, 1, 512]⟩
abbrev S256x1536 : Shape := ⟨2, ![256, 1536]⟩
abbrev S256x128 : Shape := ⟨2, ![256, 128]⟩
abbrev S1536 : Shape := ⟨1, ![1536]⟩
abbrev S512 : Shape := ⟨1, ![512]⟩

abbrev nBuf : Space → Nat
  | .hbm => 51
  | .vmem => 15
  | .smem => 0
  | _ => 0

abbrev bufTy : (tb : Table) → Fin (tcTables nBuf tb) → BufTy
  | .hbm, ⟨0, _⟩ => ⟨S32x32768, .f32⟩
  | .hbm, ⟨1, _⟩ => ⟨S512x256x3, .f32⟩
  | .hbm, ⟨2, _⟩ => ⟨S512x256x3, .f32⟩
  | .hbm, ⟨3, _⟩ => ⟨S_, .f32⟩
  | .hbm, ⟨4, _⟩ => ⟨S_, .f32⟩
  | .hbm, ⟨5, _⟩ => ⟨S256, .i32⟩
  | .hbm, ⟨6, _⟩ => ⟨S256x1, .i32⟩
  | .hbm, ⟨7, _⟩ => ⟨S1x256, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S256x256, .f32⟩
  | .hbm, ⟨12, _⟩ => ⟨S_, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S128, .i32⟩
  | .hbm, ⟨17, _⟩ => ⟨S128x1, .i32⟩
  | .hbm, ⟨18, _⟩ => ⟨S1x128, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S128x128, .f32⟩
  | .hbm, ⟨23, _⟩ => ⟨S_, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S32x128x256, .f32⟩
  | .hbm, ⟨40, _⟩ => ⟨S3x512x256, .f32⟩
  | .hbm, ⟨41, _⟩ => ⟨S1536x256, .f32⟩
  | .hbm, ⟨42, _⟩ => ⟨S3x512x256, .f32⟩
  | .hbm, ⟨43, _⟩ => ⟨S1536x256, .f32⟩
  | .hbm, ⟨44, _⟩ => ⟨S128x256, .f32⟩
  | .hbm, ⟨45, _⟩ => ⟨S128x256, .f32⟩
  | .hbm, ⟨46, _⟩ => ⟨S256x256, .bf16⟩
  | .hbm, ⟨47, _⟩ => ⟨S256x256, .bf16⟩
  | .hbm, ⟨48, _⟩ => ⟨S256x256, .f32⟩
  | .hbm, ⟨49, _⟩ => ⟨S256x256, .bf16⟩
  | .hbm, ⟨50, _⟩ => ⟨S32x1x512, .f32⟩
  | .local _ .vmem, ⟨0, _⟩ => ⟨S1x128x256, .f32⟩
  | .local _ .vmem, ⟨1, _⟩ => ⟨S1x128x256, .f32⟩
  | .local _ .vmem, ⟨2, _⟩ => ⟨S1536x256, .f32⟩
  | .local _ .vmem, ⟨3, _⟩ => ⟨S1536x256, .f32⟩
  | .local _ .vmem, ⟨4, _⟩ => ⟨S256x256, .f32⟩
  | .local _ .vmem, ⟨5, _⟩ => ⟨S256x256, .f32⟩
  | .local _ .vmem, ⟨6, _⟩ => ⟨S128x256, .f32⟩
  | .local _ .vmem, ⟨7, _⟩ => ⟨S128x256, .f32⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S1x1x512, .f32⟩
  | .local _ .vmem, ⟨12, _⟩ => ⟨S1x1x512, .f32⟩
  | .local _ .vmem, ⟨13, _⟩ => ⟨S256x1536, .bf16⟩
  | .local _ .vmem, ⟨14, _⟩ => ⟨S256x1536, .bf16⟩
  | _, _ => ⟨S32x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_768" => some ((1 / 768 : ℝ) : EReal)
  | _ => none
-- ==== ReferenceIdeal.lean ====
abbrev S32x32768 : Shape := ⟨2, ![32, 32768]⟩
abbrev S512x256x3 : Shape := ⟨3, ![512, 256, 3]⟩
abbrev S32x128x256 : Shape := ⟨3, ![32, 128, 256]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S32x256x128 : Shape := ⟨3, ![32, 256, 128]⟩
abbrev S512 : Shape := ⟨1, ![512]⟩
abbrev S512x1 : Shape := ⟨2, ![512, 1]⟩
abbrev S32x512x256 : Shape := ⟨3, ![32, 512, 256]⟩
abbrev S32x512x256x1 : Shape := ⟨4, ![32, 512, 256, 1]⟩
abbrev S3 : Shape := ⟨1, ![3]⟩
abbrev S1x512x256x3 : Shape := ⟨4, ![1, 512, 256, 3]⟩
abbrev S32x512x256x3 : Shape := ⟨4, ![32, 512, 256, 3]⟩
abbrev S1x1x1x3 : Shape := ⟨4, ![1, 1, 1, 3]⟩
abbrev S256x32x512x3 : Shape := ⟨4, ![256, 32, 512, 3]⟩
abbrev S32x512x3 : Shape := ⟨3, ![32, 512, 3]⟩
abbrev S32x512 : Shape := ⟨2, ![32, 512]⟩
abbrev S32x1x512 : Shape := ⟨3, ![32, 1, 512]⟩

abbrev nBuf : Space → Nat
  | .hbm => 179
  | .vmem => 0
  | .smem => 0
  | _ => 0

abbrev hbmTy0_0 (i : Nat) : BufTy := match i % 128 with
  | 0 => ⟨S32x32768, .f32⟩
  | 1 => ⟨S512x256x3, .f32⟩
  | 2 => ⟨S512x256x3, .f32⟩
  | 3 => ⟨S32x128x256, .f32⟩
  | 4 => ⟨S_, .f32⟩
  | 5 => ⟨S_, .f32⟩
  | 6 => ⟨S256, .i32⟩
  | 7 => ⟨S_, .f32⟩
  | 8 => ⟨S_, .f32⟩
  | 9 => ⟨S256x1, .i32⟩
  | 10 => ⟨S1x256, .i32⟩
  | 11 => ⟨S256x256, .i32⟩
  | 12 => ⟨S256x256, .i32⟩
  | 13 => ⟨S256x256, .i32⟩
  | 14 => ⟨S256x256, .f32⟩
  | 15 => ⟨S256x256, .f32⟩
  | 16 => ⟨S256x256, .f32⟩
  | 17 => ⟨S_, .f32⟩
  | 18 => ⟨S256x256, .f32⟩
  | 19 => ⟨S256x256, .f32⟩
  | 20 => ⟨S256x256, .f32⟩
  | 21 => ⟨S256x256, .f32⟩
  | 22 => ⟨S128, .i32⟩
  | 23 => ⟨S_, .f32⟩
  | 24 => ⟨S_, .f32⟩
  | 25 => ⟨S128x1, .i32⟩
  | 26 => ⟨S1x128, .i32⟩
  | 27 => ⟨S128x128, .i32⟩
  | 28 => ⟨S128x128, .i32⟩
  | 29 => ⟨S128x128, .i32⟩
  | 30 => ⟨S128x128, .f32⟩
  | 31 => ⟨S128x128, .f32⟩
  | 32 => ⟨S128x128, .f32⟩
  | 33 => ⟨S_, .f32⟩
  | 34 => ⟨S128x128, .f32⟩
  | 35 => ⟨S128x128, .f32⟩
  | 36 => ⟨S128x128, .f32⟩
  | 37 => ⟨S128x128, .f32⟩
  | 38 => ⟨S32x128x256, .f32⟩
  | 39 => ⟨S32x128x256, .f32⟩
  | 40 => ⟨S32x128x256, .f32⟩
  | 41 => ⟨S32x256x128, .f32⟩
  | 42 => ⟨S32x128x256, .f32⟩
  | 43 => ⟨S32x256x128, .f32⟩
  | 44 => ⟨S32x128x256, .f32⟩
  | 45 => ⟨S32x128x256, .f32⟩
  | 46 => ⟨S32x256x128, .f32⟩
  | 47 => ⟨S32x128x256, .f32⟩
  | 48 => ⟨S32x256x128, .f32⟩
  | 49 => ⟨S32x128x256, .f32⟩
  | 50 => ⟨S32x128x256, .f32⟩
  | 51 => ⟨S512, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S512, .i32⟩
  | 59 => ⟨S512, .i32⟩
  | 60 => ⟨S_, .i32⟩
  | 61 => ⟨S512, .i32⟩
  | 62 => ⟨S512, .i1⟩
  | 63 => ⟨S_, .i32⟩
  | 64 => ⟨S512, .i32⟩
  | 65 => ⟨S512, .i1⟩
  | 66 => ⟨S_, .i32⟩
  | 67 => ⟨S_, .i1⟩
  | 68 => ⟨S512, .i1⟩
  | 69 => ⟨S512, .i1⟩
  | 70 => ⟨S512, .i1⟩
  | 71 => ⟨S512, .i32⟩
  | 72 => ⟨S512, .i32⟩
  | 73 => ⟨S512, .i32⟩
  | 74 => ⟨S_, .i32⟩
  | 75 => ⟨S512, .i32⟩
  | 76 => ⟨S512, .i1⟩
  | 77 => ⟨S_, .i32⟩
  | 78 => ⟨S512, .i32⟩
  | 79 => ⟨S512, .i32⟩
  | 80 => ⟨S512, .i32⟩
  | 81 => ⟨S512x1, .i32⟩
  | 82 => ⟨S32x512x256, .f32⟩
  | 83 => ⟨S32x512x256x1, .f32⟩
  | 84 => ⟨S_, .i32⟩
  | 85 => ⟨S512, .i32⟩
  | 86 => ⟨S512, .i1⟩
  | 87 => ⟨S_, .i32⟩
  | 88 => ⟨S512, .i32⟩
  | 89 => ⟨S512, .i32⟩
  | 90 => ⟨S512, .i32⟩
  | 91 => ⟨S512x1, .i32⟩
  | 92 => ⟨S32x512x256, .f32⟩
  | 93 => ⟨S32x512x256x1, .f32⟩
  | 94 => ⟨S3, .i32⟩
  | 95 => ⟨S3, .f32⟩
  | 96 => ⟨S_, .f32⟩
  | 97 => ⟨S_, .f32⟩
  | 98 => ⟨S_, .f32⟩
  | 99 => ⟨S_, .f32⟩
  | 100 => ⟨S3, .f32⟩
  | 101 => ⟨S3, .f32⟩
  | 102 => ⟨S3, .f32⟩
  | 103 => ⟨S3, .f32⟩
  | 104 => ⟨S1x512x256x3, .f32⟩
  | 105 => ⟨S32x512x256x3, .f32⟩
  | 106 => ⟨S32x512x256x3, .f32⟩
  | 107 => ⟨S32x512x256x3, .f32⟩
  | 108 => ⟨S1x512x256x3, .f32⟩
  | 109 => ⟨S32x512x256x3, .f32⟩
  | 110 => ⟨S32x512x256x3, .f32⟩
  | 111 => ⟨S32x512x256x3, .f32⟩
  | 112 => ⟨S32x512x256x3, .f32⟩
  | 113 => ⟨S1x512x256x3, .f32⟩
  | 114 => ⟨S32x512x256x3, .f32⟩
  | 115 => ⟨S32x512x256x3, .f32⟩
  | 116 => ⟨S32x512x256x3, .f32⟩
  | 117 => ⟨S1x512x256x3, .f32⟩
  | 118 => ⟨S32x512x256x3, .f32⟩
  | 119 => ⟨S32x512x256x3, .f32⟩
  | 120 => ⟨S32x512x256x3, .f32⟩
  | 121 => ⟨S32x512x256x3, .f32⟩
  | 122 => ⟨S1x1x1x3, .f32⟩
  | 123 => ⟨S32x512x256x3, .f32⟩
  | 124 => ⟨S32x512x256x3, .f32⟩
  | 125 => ⟨S1x1x1x3, .f32⟩
  | 126 => ⟨S32x512x256x3, .f32⟩
  | 127 => ⟨S32x512x256x3, .f32⟩
  | _ => ⟨S32x32768, .f32⟩

abbrev hbmTy0_1 (i : Nat) : BufTy := match i % 128 with
  | 0 => ⟨S32x512x256x3, .f32⟩
  | 1 => ⟨S1x1x1x3, .f32⟩
  | 2 => ⟨S32x512x256x3, .f32⟩
  | 3 => ⟨S32x512x256x3, .f32⟩
  | 4 => ⟨S1x1x1x3, .f32⟩
  | 5 => ⟨S32x512x256x3, .f32⟩
  | 6 => ⟨S32x512x256x3, .f32⟩
  | 7 => ⟨S32x512x256x3, .f32⟩
  | 8 => ⟨S256x32x512x3, .f32⟩
  | 9 => ⟨S32x512x256x3, .f32⟩
  | 10 => ⟨S256x32x512x3, .f32⟩
  | 11 => ⟨S32x512x256x3, .f32⟩
  | 12 => ⟨S32x512x256x3, .f32⟩
  | 13 => ⟨S_, .f32⟩
  | 14 => ⟨S32x512x256x3, .f32⟩
  | 15 => ⟨S32x512x256x3, .f32⟩
  | 16 => ⟨S256x32x512x3, .f32⟩
  | 17 => ⟨S32x512x256x3, .f32⟩
  | 18 => ⟨S256x32x512x3, .f32⟩
  | 19 => ⟨S32x512x256x3, .f32⟩
  | 20 => ⟨S32x512x256x3, .f32⟩
  | 21 => ⟨S_, .f32⟩
  | 22 => ⟨S32x512x256x3, .f32⟩
  | 23 => ⟨S32x512x256x3, .f32⟩
  | 24 => ⟨S32x512x256x3, .f32⟩
  | 25 => ⟨S32x512x256x3, .f32⟩
  | 26 => ⟨S32x512x256x3, .f32⟩
  | 27 => ⟨S_, .f32⟩
  | 28 => ⟨S32x512x256x3, .f32⟩
  | 29 => ⟨S32x512x256x3, .f32⟩
  | 30 => ⟨S32x512x256x3, .f32⟩
  | 31 => ⟨S_, .f32⟩
  | 32 => ⟨S32x512x3, .f32⟩
  | 33 => ⟨S_, .f32⟩
  | 34 => ⟨S32x512x3, .f32⟩
  | 35 => ⟨S32x512x3, .f32⟩
  | 36 => ⟨S_, .f32⟩
  | 37 => ⟨S32x512, .f32⟩
  | 38 => ⟨S_, .f32⟩
  | 39 => ⟨S32x512, .f32⟩
  | 40 => ⟨S32x512, .f32⟩
  | 41 => ⟨S_, .f32⟩
  | 42 => ⟨S32x512, .f32⟩
  | 43 => ⟨S32x512, .f32⟩
  | 44 => ⟨S_, .f32⟩
  | 45 => ⟨S32x512, .f32⟩
  | 46 => ⟨S32x512, .i1⟩
  | 47 => ⟨S_, .f32⟩
  | 48 => ⟨S32x512, .f32⟩
  | 49 => ⟨S32x512, .f32⟩
  | 50 => ⟨S32x1x512, .f32⟩
  | _ => ⟨S32x32768, .f32⟩

abbrev hbmTy (i : Nat) : BufTy := match i / 128 with
  | 0 => hbmTy0_0 i
  | 1 => hbmTy0_1 i
  | _ => ⟨S32x32768, .f32⟩

abbrev bufTy : (tb : Table) → Fin (tcTables nBuf tb) → BufTy
  | .hbm, ⟨i, _⟩ => hbmTy i
  | _, _ => ⟨S32x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_c : Ref sig .tc := ⟨.hbm, 52, rfl⟩
abbrev main_call0_v0 : Ref sig .tc := ⟨.hbm, 53, rfl⟩
abbrev main_call0_c : Ref sig .tc := ⟨.hbm, 54, rfl⟩
abbrev main_call0_v1 : Ref sig .tc := ⟨.hbm, 55, rfl⟩
abbrev main_call0_c_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_c_1 : Ref sig .tc := ⟨.hbm, 60, rfl⟩
abbrev main_call0_v5 : Ref sig .tc := ⟨.hbm, 61, rfl⟩
abbrev main_call0_v6 : Ref sig .tc := ⟨.hbm, 62, rfl⟩
abbrev main_call0_c_2 : Ref sig .tc := ⟨.hbm, 63, rfl⟩
abbrev main_call0_v7 : Ref sig .tc := ⟨.hbm, 64, rfl⟩
abbrev main_call0_v8 : Ref sig .tc := ⟨.hbm, 65, rfl⟩
abbrev main_call0_c_3 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_v12 : Ref sig .tc := ⟨.hbm, 70, rfl⟩
abbrev main_call0_v13 : Ref sig .tc := ⟨.hbm, 71, rfl⟩
abbrev main_call0_v14 : Ref sig .tc := ⟨.hbm, 72, rfl⟩
abbrev main_v44 : Ref sig .tc := ⟨.hbm, 73, rfl⟩
abbrev main_c_4 : Ref sig .tc := ⟨.hbm, 74, rfl⟩
abbrev main_v45 : Ref sig .tc := ⟨.hbm, 75, rfl⟩
abbrev main_v46 : Ref sig .tc := ⟨.hbm, 76, rfl⟩
abbrev main_c_5 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_6 : Ref sig .tc := ⟨.hbm, 84, rfl⟩
abbrev main_v53 : Ref sig .tc := ⟨.hbm, 85, rfl⟩
abbrev main_v54 : Ref sig .tc := ⟨.hbm, 86, rfl⟩
abbrev main_c_7 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_8 : Ref sig .tc := ⟨.hbm, 96, rfl⟩
abbrev main_v63 : Ref sig .tc := ⟨.hbm, 97, rfl⟩
abbrev main_cst_9 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_10 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_11 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_12 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_13 : Ref sig .tc := ⟨.hbm, 159, rfl⟩
abbrev main_v121 : Ref sig .tc := ⟨.hbm, 160, rfl⟩
abbrev main_cst_14 : Ref sig .tc := ⟨.hbm, 161, rfl⟩
abbrev main_v122 : Ref sig .tc := ⟨.hbm, 162, rfl⟩
abbrev main_v123 : Ref sig .tc := ⟨.hbm, 163, rfl⟩
abbrev main_cst_15 : Ref sig .tc := ⟨.hbm, 164, rfl⟩
abbrev main_v124 : Ref sig .tc := ⟨.hbm, 165, rfl⟩
abbrev main_cst_16 : Ref sig .tc := ⟨.hbm, 166, rfl⟩
abbrev main_v125 : Ref sig .tc := ⟨.hbm, 167, rfl⟩
abbrev main_v126 : Ref sig .tc := ⟨.hbm, 168, rfl⟩
abbrev main_cst_17 : Ref sig .tc := ⟨.hbm, 169, rfl⟩
abbrev main_v127 : Ref sig .tc := ⟨.hbm, 170, rfl⟩
abbrev main_v128 : Ref sig .tc := ⟨.hbm, 171, rfl⟩
abbrev main_cst_18 : Ref sig .tc := ⟨.hbm, 172, rfl⟩
abbrev main_v129 : Ref sig .tc := ⟨.hbm, 173, rfl⟩
abbrev main_v130 : Ref sig .tc := ⟨.hbm, 174, rfl⟩
abbrev main_cst_19 : Ref sig .tc := ⟨.hbm, 175, rfl⟩
abbrev main_call1_v0 : Ref sig .tc := ⟨.hbm, 176, rfl⟩
abbrev main_v131 : Ref sig .tc := ⟨.hbm, 177, rfl⟩
abbrev main_v132 : Ref sig .tc := ⟨.hbm, 178, rfl⟩

abbrev nD : Nat := 1
abbrev τ : Topo := Topo.v7x

variable {F : FTy → Type} [FloatOps F]
-- ==== Proof.Reals.lean ====
/- The extended reals of the ideal instance, restricted to real numbers: sums, roots and the constants that the two
   programs print. -/
module

public import Idealize.ShloMosaic.Lib.Pointwise
public import Idealize.ShloMosaic.Lib.IdealHost
public import Mathlib.Analysis.SpecialFunctions.Trigonometric.Inverse

@[expose] public section

noncomputable section

namespace Cert.Holo

open Idealize.ShloMosaic
open scoped BigOperators

/-- A finite sum of real numbers, taken in the extended reals, is the real sum. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The square root of a real number that is not negative. -/
theorem sqrt_coe_nonneg {r : ℝ} (h : 0 ≤ r) : Ideal.sqrt (r : EReal) = ((Real.sqrt r : ℝ) : EReal) := by
  rw [Ideal.sqrt_coe, if_neg (not_lt.mpr h)]

/-- A real number that is not negative, times its reciprocal root, is its root; at zero both are zero. -/
theorem mul_rsqrt_coe {r : ℝ} (h : 0 ≤ r) :
    (r : EReal) * Ideal.rsqrt (r : EReal) = ((Real.sqrt r : ℝ) : EReal) := by
  rw [Ideal.rsqrt_coe, if_neg (not_lt.mpr h)]
  by_cases h0 : r = 0
  · subst h0; simp
  · rw [if_neg h0, ← EReal.coe_mul]
    congr 1
    have hs : Real.sqrt r ≠ 0 := by
      rw [Ne, Real.sqrt_eq_zero h]; exact h0
    field_simp
    exact (Real.sq_sqrt h).symm

/-- Division of real numbers by a divisor that is not zero. -/
theorem div_coe_coe {y : ℝ} (h : y ≠ 0) (x : ℝ) : Ideal.div (x : EReal) (y : EReal) = ((x / y : ℝ) : EReal) := by
  rw [Ideal.div_coe h, ← EReal.coe_mul]
  congr 1
  ring

/-- The arc cosine of minus one is π. -/
theorem acos_neg_one : Ideal.acos ((-1 : ℝ) : EReal) = ((Real.pi : ℝ) : EReal) := by
  rw [Ideal.acos_coe, if_pos (by norm_num), Real.arccos_neg_one]

/-- The word of -1. -/
theorem word_neg_one : Ideal.ofBits .f32 0xBF800000#32 = ((-1 : ℝ) : EReal) := by
  simp [Ideal.ofBits, Ideal.ieee, -EReal.coe_mul, -EReal.coe_neg]; norm_num

/-- The word of 1. -/
theorem word_one : Ideal.ofBits .f32 0x3F800000#32 = ((1 : ℝ) : EReal) := by
  simp [Ideal.ofBits, Ideal.ieee, -EReal.coe_mul, -EReal.coe_neg, -EReal.coe_one]; norm_num

/-- The word of 2. -/
theorem word_two : Ideal.ofBits .f32 0x40000000#32 = ((2 : ℝ) : EReal) := by
  simp [Ideal.ofBits, Ideal.ieee, -EReal.coe_mul, -EReal.coe_neg]; norm_num

/-- The word of 3. -/
theorem word_three : Ideal.ofBits .f32 0x40400000#32 = ((3 : ℝ) : EReal) := by
  simp [Ideal.ofBits, Ideal.ieee, -EReal.coe_mul, -EReal.coe_neg]; norm_num

/-- The word of 128. -/
theorem word_128 : Ideal.ofBits .f32 0x43000000#32 = ((128 : ℝ) : EReal) := by
  simp [Ideal.ofBits, Ideal.ieee, -EReal.coe_mul, -EReal.coe_neg]; norm_num

/-- The word of 256. -/
theorem word_256 : Ideal.ofBits .f32 0x43800000#32 = ((256 : ℝ) : EReal) := by
  simp [Ideal.ofBits, Ideal.ieee, -EReal.coe_mul, -EReal.coe_neg]; norm_num

/-- The word of 1/64. -/
theorem word_inv_64 : Ideal.ofBits .f32 0x3C800000#32 = ((1 / 64 : ℝ) : EReal) := by
  simp [Ideal.ofBits, Ideal.ieee, -EReal.coe_mul, -EReal.coe_neg]; norm_num

/-- The word of 1/128. -/
theorem word_inv_128 : Ideal.ofBits .f32 0x3C000000#32 = ((1 / 128 : ℝ) : EReal) := by
  simp [Ideal.ofBits, Ideal.ieee, -EReal.coe_mul, -EReal.coe_neg]; norm_num

/-- The word of 1/256. -/
theorem word_inv_256 : Ideal.ofBits .f32 0x3B800000#32 = ((1 / 256 : ℝ) : EReal) := by
  simp [Ideal.ofBits, Ideal.ieee, -EReal.coe_mul, -EReal.coe_neg]; norm_num

/-- The guard under the root, `1e-37` in binary32, as the real number its word denotes. -/
def guard : ℝ := (Ideal.ofBits .f32 0x02081CEA#32).toReal

/-- The guard's word denotes a real number that is not negative. -/
theorem guard_spec : Ideal.ofBits .f32 0x02081CEA#32 = ((guard : ℝ) : EReal) ∧ 0 ≤ guard := by
  have h : ∃ g : ℝ, 0 ≤ g ∧ Ideal.ofBits .f32 0x02081CEA#32 = ((g : ℝ) : EReal) := by
    refine ⟨(((2 ^ 23 + 531690 : ℕ) : ℝ) * (2 : ℝ) ^ ((4 : Int) - 127 - 23)), by positivity, ?_⟩
    simp [Ideal.ofBits, Ideal.ieee, -EReal.coe_mul, -EReal.coe_neg]
  obtain ⟨g, hg, e⟩ := h
  unfold guard
  rw [e, EReal.toReal_coe]
  exact ⟨rfl, hg⟩

end Cert.Holo

end
-- ==== Proof.Spec.lean ====
/- The mathematics alone: the retrieval as the reference computes it and as one grid step computes it, over the real
   numbers, and the equation between the two. -/
module

public import proofs.«01_k».proof.Proof.Reals

@[expose] public section

noncomputable section

namespace Cert.Holo

open scoped BigOperators

/-- The angle of entry `(i, j)` of the discrete Fourier matrix of order `n`. -/
def ang (n i j : ℕ) : ℝ := 2 * Real.pi * ((i : ℝ) * (j : ℝ)) / (n : ℝ)

/-- The cosine entry `(i, j)` of the Fourier matrix of order `n`. -/
def cs (n i j : ℕ) : ℝ := Real.cos (ang n i j)

/-- The sine entry `(i, j)` of the Fourier matrix of order `n`. -/
def sn (n i j : ℕ) : ℝ := Real.sin (ang n i j)

theorem cs_comm (n i j : ℕ) : cs n i j = cs n j i := by unfold cs ang; rw [mul_comm (i : ℝ)]
theorem sn_comm (n i j : ℕ) : sn n i j = sn n j i := by unfold sn ang; rw [mul_comm (i : ℝ)]

/-! ## The reference -/

/-- Real part of the transform along the patterns. -/
def rowR (x : Fin 128 → Fin 256 → ℝ) (r : Fin 128) (k : Fin 256) : ℝ := ∑ p : Fin 256, x r p * cs 256 p k

/-- Imaginary part of the transform along the patterns. -/
def rowI (x : Fin 128 → Fin 256 → ℝ) (r : Fin 128) (k : Fin 256) : ℝ := -∑ p : Fin 256, x r p * sn 256 p k

/-- Real part of the transform in two dimensions. -/
def specR (x : Fin 128 → Fin 256 → ℝ) (j : Fin 128) (k : Fin 256) : ℝ :=
  (∑ r : Fin 128, rowR x r k * cs 128 j r) + ∑ r : Fin 128, rowI x r k * sn 128 j r

/-- Imaginary part of the transform in two dimensions. -/
def specI (x : Fin 128 → Fin 256 → ℝ) (j : Fin 128) (k : Fin 256) : ℝ :=
  (∑ r : Fin 128, rowI x r k * cs 128 j r) - ∑ r : Fin 128, rowR x r k * sn 128 j r

/-- Real part of a product of complex numbers given by their parts. -/
def mulR (ar ai br bi : ℝ) : ℝ := ar * br - ai * bi

/-- Imaginary part of a product of complex numbers given by their parts. -/
def mulI (ar ai br bi : ℝ) : ℝ := ar * bi + ai * br

/-- Real part of the inverse transform along the patterns. -/
def invR (zr zi : Fin 256 → ℝ) (n : Fin 256) : ℝ :=
  ((∑ p : Fin 256, cs 256 p n * zr p) - ∑ p : Fin 256, sn 256 p n * zi p) / 256

/-- Imaginary part of the inverse transform along the patterns. -/
def invI (zr zi : Fin 256 → ℝ) (n : Fin 256) : ℝ :=
  ((∑ p : Fin 256, sn 256 p n * zr p) + ∑ p : Fin 256, cs 256 p n * zi p) / 256

/-- The guarded modulus at place `n` of the inverse transform of `z` turned by the beam's angle `φ`. -/
def beamMod (e φ : ℝ) (zr zi : Fin 256 → ℝ) (n : Fin 256) : ℝ :=
  Real.sqrt
    (invR (fun p => zr p * Real.cos φ - zi p * Real.sin φ) (fun p => zr p * Real.sin φ + zi p * Real.cos φ) n
        * invR (fun p => zr p * Real.cos φ - zi p * Real.sin φ) (fun p => zr p * Real.sin φ + zi p * Real.cos φ) n
      + invI (fun p => zr p * Real.cos φ - zi p * Real.sin φ) (fun p => zr p * Real.sin φ + zi p * Real.cos φ) n
        * invI (fun p => zr p * Real.cos φ - zi p * Real.sin φ) (fun p => zr p * Real.sin φ + zi p * Real.cos φ) n
      + e)

/-- The reference's mean modulus of one stored entry: the mean over the patterns, then over the three beams. -/
def refTot (e : ℝ) (φ : Fin 3 → ℝ) (zr zi : Fin 3 → Fin 256 → ℝ) : ℝ :=
  (∑ w : Fin 3, (∑ n : Fin 256, beamMod e (φ w) (zr w) (zi w) n) / 256) / 3 * 1

/-! ## One grid step of the kernel -/

/-- Real part of the transform in two dimensions, patterns first, as the step multiplies it out. -/
def stepR (x : Fin 128 → Fin 256 → ℝ) (k : Fin 256) (j : Fin 128) : ℝ :=
  (∑ r : Fin 128, (∑ p : Fin 256, cs 256 k p * x r p) * cs 128 r j)
    - ∑ r : Fin 128, (∑ p : Fin 256, -sn 256 k p * x r p) * -sn 128 r j

/-- Imaginary part of the same. -/
def stepI (x : Fin 128 → Fin 256 → ℝ) (k : Fin 256) (j : Fin 128) : ℝ :=
  (∑ r : Fin 128, (∑ p : Fin 256, cs 256 k p * x r p) * -sn 128 r j)
    + ∑ r : Fin 128, (∑ p : Fin 256, -sn 256 k p * x r p) * cs 128 r j

/-- First product of the inverse transform by three products. -/
def m1 (zr : Fin 256 → ℝ) (n : Fin 256) : ℝ := ∑ k : Fin 256, cs 256 n k * (1 / 256) * zr k

/-- Second product. -/
def m2 (zi : Fin 256 → ℝ) (n : Fin 256) : ℝ := ∑ k : Fin 256, sn 256 n k * (1 / 256) * zi k

/-- Third product, of the sums. -/
def m3 (zr zi : Fin 256 → ℝ) (n : Fin 256) : ℝ :=
  ∑ k : Fin 256, (cs 256 n k * (1 / 256) + sn 256 n k * (1 / 256)) * (zr k + zi k)

/-- What stands under the root at place `n`. -/
def stepSq (e : ℝ) (zr zi : Fin 256 → ℝ) (n : Fin 256) : ℝ :=
  (m1 zr n - m2 zi n) * (m1 zr n - m2 zi n)
    + (m3 zr zi n - m1 zr n - m2 zi n) * (m3 zr zi n - m1 zr n - m2 zi n) + e

/-- The guarded moduli of one column, summed. -/
def stepSum (e : ℝ) (zr zi : Fin 256 → ℝ) : ℝ := ∑ n : Fin 256, Real.sqrt (stepSq e zr zi n)

/-- The kernel's mean modulus of one stored entry. -/
def kerTot (e : ℝ) (zr zi : Fin 3 → Fin 256 → ℝ) : ℝ :=
  (stepSum e (zr 0) (zi 0) + stepSum e (zr 1) (zi 1) + stepSum e (zr 2) (zi 2)) * (1 / 768)

/-! ## The equation -/

theorem stepSq_nonneg {e : ℝ} (he : 0 ≤ e) (zr zi : Fin 256 → ℝ) (n : Fin 256) : 0 ≤ stepSq e zr zi n :=
  add_nonneg (add_nonneg (mul_self_nonneg _) (mul_self_nonneg _)) he

theorem row_swap (x : Fin 128 → Fin 256 → ℝ) (f : ℕ → ℕ → ℝ) (hf : ∀ i j, f i j = f j i) (r : Fin 128) (k : Fin 256) :
    ∑ p : Fin 256, f k p * x r p = ∑ p : Fin 256, x r p * f p k :=
  Finset.sum_congr rfl fun p _ => by rw [hf, mul_comm]

/-- Both orders of multiplication give the same real part. -/
theorem stepR_eq (x : Fin 128 → Fin 256 → ℝ) (k : Fin 256) (j : Fin 128) : stepR x k j = specR x j k := by
  unfold stepR specR rowR rowI
  simp only [neg_mul, mul_neg, Finset.sum_neg_distrib, neg_neg, row_swap x (cs 256) (cs_comm 256),
    row_swap x (sn 256) (sn_comm 256), cs_comm 128 j, sn_comm 128 j]
  ring

/-- Both orders of multiplication give the same imaginary part. -/
theorem stepI_eq (x : Fin 128 → Fin 256 → ℝ) (k : Fin 256) (j : Fin 128) : stepI x k j = specI x j k := by
  unfold stepI specI rowR rowI
  simp only [neg_mul, mul_neg, Finset.sum_neg_distrib, neg_neg, row_swap x (cs 256) (cs_comm 256),
    row_swap x (sn 256) (sn_comm 256), cs_comm 128 j, sn_comm 128 j]
  ring

/-- The first product less the second is the real part of the inverse transform. -/
theorem m12_eq (zr zi : Fin 256 → ℝ) (n : Fin 256) : m1 zr n - m2 zi n = invR zr zi n := by
  unfold m1 m2 invR
  rw [sub_div, Finset.sum_div, Finset.sum_div]
  congr 1 <;> refine Finset.sum_congr rfl fun k _ => ?_
  · rw [cs_comm]; ring
  · rw [sn_comm]; ring

/-- The third product less the first two is the imaginary part. -/
theorem m312_eq (zr zi : Fin 256 → ℝ) (n : Fin 256) : m3 zr zi n - m1 zr n - m2 zi n = invI zr zi n := by
  unfold m1 m2 m3 invI
  rw [add_div, Finset.sum_div, Finset.sum_div, ← Finset.sum_sub_distrib, ← Finset.sum_sub_distrib,
    ← Finset.sum_add_distrib]
  refine Finset.sum_congr rfl fun k _ => ?_
  rw [cs_comm 256 k, sn_comm 256 k]; ring

/-- The inverse transform is linear: turning its argument turns its real part. -/
theorem invR_turn (a b : ℝ) (zr zi : Fin 256 → ℝ) (n : Fin 256) :
    invR (fun p => zr p * a - zi p * b) (fun p => zr p * b + zi p * a) n = invR zr zi n * a - invI zr zi n * b := by
  unfold invR invI
  simp only [mul_sub, mul_add, Finset.sum_sub_distrib, Finset.sum_add_distrib, ← mul_assoc, ← Finset.sum_mul]
  ring

/-- The inverse transform is linear: turning its argument turns its imaginary part. -/
theorem invI_turn (a b : ℝ) (zr zi : Fin 256 → ℝ) (n : Fin 256) :
    invI (fun p => zr p * a - zi p * b) (fun p => zr p * b + zi p * a) n = invR zr zi n * b + invI zr zi n * a := by
  unfold invR invI
  simp only [mul_sub, mul_add, Finset.sum_sub_distrib, Finset.sum_add_distrib, ← mul_assoc, ← Finset.sum_mul]
  ring

/-- A turn by the beam's angle leaves the modulus: what the step computes under the root is what the reference does. -/
theorem beamMod_eq (e φ : ℝ) (zr zi : Fin 256 → ℝ) (n : Fin 256) :
    beamMod e φ zr zi n = Real.sqrt (stepSq e zr zi n) := by
  unfold beamMod stepSq
  rw [invR_turn, invI_turn, m12_eq, m312_eq]
  congr 1
  have h := Real.cos_sq_add_sin_sq φ
  generalize invR zr zi n = a
  generalize invI zr zi n = b
  linear_combination (a * a + b * b) * h

/-- THE EQUATION: the mean of means over the turned moduli is the step's single sum over the plain ones. -/
theorem refTot_eq (e : ℝ) (φ : Fin 3 → ℝ) (zr zi : Fin 3 → Fin 256 → ℝ) : refTot e φ zr zi = kerTot e zr zi := by
  unfold refTot kerTot stepSum
  simp only [beamMod_eq, Fin.sum_univ_three]
  ring

end Cert.Holo

end
-- ==== Proof.RefTables.lean ====
/- The reference's trigonometric tables and its gather, read at an index. -/
module

public import proofs.«01_k».proof.Proof.Spec
public import proofs.«01_k».proof.Proof.Gen.ReferenceIdeal.Run
public import Idealize.ShloMosaic.Lib.Tactic

@[expose] public section

set_option maxRecDepth 16384

noncomputable section

namespace Cert.Holo

open Idealize.ShloMosaic Cert.ReferenceIdeal Cert.ReferenceIdeal.Gen Cert.ReferenceIdeal.Value
open scoped BigOperators

/-- A product of two small index words, read as a signed number. -/
theorem toInt_mul_small (i j : ℕ) (hi : i < 256) (hj : j < 256) :
    (IntOp.muli (BitVec.ofNat 32 i) (BitVec.ofNat 32 j)).toInt = ((i * j : ℕ) : ℤ) := by
  have h : i * j ≤ 255 * 255 := Nat.mul_le_mul (by omega) (by omega)
  show (BitVec.ofNat 32 i * BitVec.ofNat 32 j).toInt = _
  rw [← BitVec.ofNat_mul, BitVec.toInt_eq_toNat_cond, BitVec.toNat_ofNat, Nat.mod_eq_of_lt (by omega), if_pos (by omega)]

/-- A product of two small index words, converted to a float, is the product of the numbers. -/
theorem sitofp_mul_small (i j : ℕ) (hi : i < 256) (hj : j < 256) :
    (FloatOps.sitofp .f32 (IntOp.muli (BitVec.ofNat 32 i) (BitVec.ofNat 32 j)) : Ideal .f32)
      = (((i : ℝ) * (j : ℝ) : ℝ) : EReal) := by
  show ((((IntOp.muli (BitVec.ofNat 32 i) (BitVec.ofNat 32 j)).toInt : ℤ) : ℝ) : EReal) = _
  rw [toInt_mul_small i j hi hj]
  push_cast
  rfl

variable (V0 : Valuation τ sig (Elt Ideal))

theorem ref_v13 (i j : Fin 256) : (res_main_v13 V0 : FVec Ideal S256x256 .f32) (ix2 i j) = ((ang 256 i j : ℝ) : EReal) := by
  unfold res_main_v13 res_main_v1 res_main_v2
  pointwise
  rw [sitofp_mul_small _ _ i.isLt j.isLt, word_two, word_neg_one, word_256, acos_neg_one, ← EReal.coe_mul, ← EReal.coe_mul,
    div_coe_coe (by norm_num)]
  rfl

theorem ref_v27 (i j : Fin 128) : (res_main_v27 V0 : FVec Ideal S128x128 .f32) (ix2 i j) = ((ang 128 i j : ℝ) : EReal) := by
  unfold res_main_v27 res_main_v1 res_main_v16
  pointwise
  rw [sitofp_mul_small _ _ (by omega) (by omega), word_two, word_neg_one, word_128, acos_neg_one, ← EReal.coe_mul, ← EReal.coe_mul,
    div_coe_coe (by norm_num)]
  rfl

theorem ref_v14 (i j : Fin 256) : (res_main_v14 V0 : FVec Ideal S256x256 .f32) (ix2 i j) = ((cs 256 i j : ℝ) : EReal) := by
  unfold res_main_v14
  pointwise
  rw [ref_v13, Ideal.cos_coe]
  rfl

theorem ref_v15 (i j : Fin 256) : (res_main_v15 V0 : FVec Ideal S256x256 .f32) (ix2 i j) = ((sn 256 i j : ℝ) : EReal) := by
  unfold res_main_v15
  pointwise
  rw [ref_v13, Ideal.sin_coe]
  rfl

theorem ref_v28 (i j : Fin 128) : (res_main_v28 V0 : FVec Ideal S128x128 .f32) (ix2 i j) = ((cs 128 i j : ℝ) : EReal) := by
  unfold res_main_v28
  pointwise
  rw [ref_v27, Ideal.cos_coe]
  rfl

theorem ref_v29 (i j : Fin 128) : (res_main_v29 V0 : FVec Ideal S128x128 .f32) (ix2 i j) = ((sn 128 i j : ℝ) : EReal) := by
  unfold res_main_v29
  pointwise
  rw [ref_v27, Ideal.sin_coe]
  rfl

/-- The beam's angle. -/
def beam (w : Fin 3) : ℝ := (w.val : ℝ) * (2 * Real.pi / 2)

theorem ref_v66 (w : Fin 3) : (res_main_v66 V0 : FVec Ideal S3 .f32) (ix1 w) = ((beam w : ℝ) : EReal) := by
  unfold res_main_v66 res_main_v1
  pointwise
  have h : (FloatOps.sitofp .f32 (BitVec.ofNat 32 w.val) : Ideal .f32) = ((w.val : ℝ) : EReal) := by
    show ((((BitVec.ofNat 32 w.val).toInt : ℤ) : ℝ) : EReal) = _
    rw [show (BitVec.ofNat 32 w.val).toInt = ((w.val : ℕ) : ℤ) from by revert w; decide]
    push_cast
    rfl
  rw [h, word_two, word_neg_one, acos_neg_one, ← EReal.coe_mul, div_coe_coe (by norm_num), ← EReal.coe_mul]
  rfl

theorem ref_v67 (w : Fin 3) : (res_main_v67 V0 : FVec Ideal S3 .f32) (ix1 w) = ((Real.cos (beam w) : ℝ) : EReal) := by
  unfold res_main_v67
  pointwise
  rw [ref_v66, Ideal.cos_coe]

theorem ref_v68 (w : Fin 3) : (res_main_v68 V0 : FVec Ideal S3 .f32) (ix1 w) = ((Real.sin (beam w) : ℝ) : EReal) := by
  unfold res_main_v68
  pointwise
  rw [ref_v66, Ideal.sin_coe]

/-- The row that entry `m` of the memory reads. -/
def rowOf (m : Fin 512) : Fin 128 := ⟨m.val % 128, Nat.mod_lt _ (by decide)⟩

/-- The gather's start word at entry `m` is the word of its row. -/
theorem ref_rows (m : Fin 512) :
    (select (cmpi .slt (res_main_v44 V0) (broadcastInDim S512 ![] bcast_S_S512 (constantI S_ 32 0#32)))
      (addi (res_main_v44 V0) (broadcastInDim S512 ![] bcast_S_S512 (constantI S_ 32 128#32))) (res_main_v44 V0) : IVec S512 32) (ix1 m)
      = BitVec.ofNat 32 (rowOf m).val := by
  unfold res_main_v44 res_main_call0_v4 res_main_call0_v2 res_main_call0_v0
  pointwise
  revert m
  decide +kernel

/-- Rows of a box taken by index words along its middle axis: entry `(b, m, k)` is the box's entry `(b, r, k)`, where the
    word at `m` is `r`. -/
theorem gather_mid (x : FVec Ideal S32x128x256 .f32) (idx : IVec S512x1 32) (b : Fin 32) (m : Fin 512) (k : Fin 256) (r : Fin 128)
    (h : idx (ix2 m 0) = BitVec.ofNat 32 r.val) :
    Host.gather gather_S32x128x256_S512x1_S32x512x256_02_1_n_n_1_1_321256 x idx (ix3 b m k) = x (ix3 b r k) := by
  unfold Host.gather
  refine congrArg x (funext fun a => Fin.ext ?_)
  match a with
  | ⟨0, _⟩ =>
    show GatherDims.start gather_S32x128x256_S512x1_S32x512x256_02_1_n_n_1_1_321256 (ix3 b m k) idx 0 + 0 + b.val = b.val
    have h0 : GatherDims.start gather_S32x128x256_S512x1_S32x512x256_02_1_n_n_1_1_321256 (ix3 b m k) idx 0 = 0 := rfl
    omega
  | ⟨1, _⟩ =>
    show min (idx _).toInt.toNat (128 - 1) + 0 + 0 = r.val
    have e : GatherDims.siIdx gather_S32x128x256_S512x1_S32x512x256_02_1_n_n_1_1_321256 (ix3 b m k) ⟨0, by decide⟩ = ix2 m 0 := by
      funext b'
      match b' with
      | ⟨0, _⟩ => rfl
      | ⟨1, _⟩ => rfl
    refine (congrArg (fun z => min z.toInt.toNat (128 - 1) + 0 + 0) ((congrArg idx e).trans h)).trans ?_
    have hr : r.val < 128 := r.isLt
    have ht : (BitVec.ofNat 32 r.val).toInt = (r.val : ℤ) := by
      rw [BitVec.toInt_eq_toNat_cond, BitVec.toNat_ofNat, Nat.mod_eq_of_lt (by omega), if_pos (by omega)]
    simp only [ht]
    omega
  | ⟨2, _⟩ =>
    show GatherDims.start gather_S32x128x256_S512x1_S32x512x256_02_1_n_n_1_1_321256 (ix3 b m k) idx 2 + 0 + k.val = k.val
    have h0 : GatherDims.start gather_S32x128x256_S512x1_S32x512x256_02_1_n_n_1_1_321256 (ix3 b m k) idx 2 = 0 := rfl
    omega

end Cert.Holo

end
-- ==== Proof.RefRead.lean ====
/- What the reference's run leaves, read at an index, at arguments that hold real numbers. -/
module

public import proofs.«01_k».proof.Proof.RefTables

@[expose] public section

set_option maxRecDepth 16384

noncomputable section

namespace Cert.Holo

open Idealize.ShloMosaic Cert.ReferenceIdeal Cert.ReferenceIdeal.Gen Cert.ReferenceIdeal.Value
open scoped BigOperators

/-- The place of pattern `p` of row `r` in a flattened stimulus. -/
def flat (r : Fin 128) (p : Fin 256) : Fin 32768 := ⟨r.val * 256 + p.val, by omega⟩

/-- The reference's arguments hold these real numbers. -/
structure RefArgs (V0 : Valuation τ sig (Elt Ideal)) (X : Fin 32 → Fin 128 → Fin 256 → ℝ)
    (Hr Hi : Fin 512 → Fin 256 → Fin 3 → ℝ) : Prop where
  hx : ∀ b r p, (V0 (Proc.devRef .tc main_arg0) : FVec Ideal S32x32768 .f32) (ix2 b (flat r p)) = ((X b r p : ℝ) : EReal)
  hr : ∀ m p w, (V0 (Proc.devRef .tc main_arg1) : FVec Ideal S512x256x3 .f32) (ix3 m p w) = ((Hr m p w : ℝ) : EReal)
  hi : ∀ m p w, (V0 (Proc.devRef .tc main_arg2) : FVec Ideal S512x256x3 .f32) (ix3 m p w) = ((Hi m p w : ℝ) : EReal)

/-- Real part of the memory's product with the spectrum: entry `m`, beam `w`. -/
def prodR (x : Fin 128 → Fin 256 → ℝ) (Hr Hi : Fin 512 → Fin 256 → Fin 3 → ℝ) (m : Fin 512) (w : Fin 3) (p : Fin 256) : ℝ :=
  mulR (specR x (rowOf m) p) (specI x (rowOf m) p) (Hr m p w) (Hi m p w)

/-- Imaginary part of the same. -/
def prodI (x : Fin 128 → Fin 256 → ℝ) (Hr Hi : Fin 512 → Fin 256 → Fin 3 → ℝ) (m : Fin 512) (w : Fin 3) (p : Fin 256) : ℝ :=
  mulI (specR x (rowOf m) p) (specI x (rowOf m) p) (Hr m p w) (Hi m p w)

variable {V0 : Valuation τ sig (Elt Ideal)} {X : Fin 32 → Fin 128 → Fin 256 → ℝ} {Hr Hi : Fin 512 → Fin 256 → Fin 3 → ℝ}

theorem ref_v0 (h : RefArgs V0 X Hr Hi) (b : Fin 32) (r : Fin 128) (p : Fin 256) :
    (res_main_v0 V0 : FVec Ideal S32x128x256 .f32) (ix3 b r p) = ((X b r p : ℝ) : EReal) := by
  unfold res_main_v0
  show (shapeCast S32x128x256 (V0 (Proc.devRef .tc main_arg0) : FVec Ideal S32x32768 .f32) shapeCasts_S32x32768_S32x128x256
    : FVec Ideal S32x128x256 .f32) (ix3 b r p) = _
  pointwise
  exact h.hx b r p

theorem ref_v30 (h : RefArgs V0 X Hr Hi) (b : Fin 32) (r : Fin 128) (k : Fin 256) :
    (res_main_v30 V0 : FVec Ideal S32x128x256 .f32) (ix3 b r k) = ((rowR (X b) r k : ℝ) : EReal) := by
  unfold res_main_v30
  pointwise
  simp only [ref_v0 h, ref_v14, ← EReal.coe_mul, sum_coe]
  rfl

theorem ref_v32 (h : RefArgs V0 X Hr Hi) (b : Fin 32) (r : Fin 128) (k : Fin 256) :
    (res_main_v32 V0 : FVec Ideal S32x128x256 .f32) (ix3 b r k) = ((rowI (X b) r k : ℝ) : EReal) := by
  unfold res_main_v32
  pointwise
  simp only [ref_v0 h, ref_v15, ← EReal.coe_mul, sum_coe, ← EReal.coe_neg]
  rfl

theorem ref_v52 (h : RefArgs V0 X Hr Hi) (b : Fin 32) (m : Fin 512) (p : Fin 256) :
    (res_main_v52 V0 : FVec Ideal S32x512x256x1 .f32) (ix4 b m p 0) = ((specR (X b) (rowOf m) p : ℝ) : EReal) := by
  unfold res_main_v52
  pointwise
  rw [gather_mid _ _ b m p (rowOf m)]
  · pointwise
    simp only [ref_v30 h, ref_v32 h, ref_v28, ref_v29, ← EReal.coe_mul, sum_coe, ← EReal.coe_add]
    rfl
  · have e := ref_rows V0 m
    rw [← e]
    pointwise

theorem ref_v60 (h : RefArgs V0 X Hr Hi) (b : Fin 32) (m : Fin 512) (p : Fin 256) :
    (res_main_v60 V0 : FVec Ideal S32x512x256x1 .f32) (ix4 b m p 0) = ((specI (X b) (rowOf m) p : ℝ) : EReal) := by
  unfold res_main_v60
  pointwise
  rw [gather_mid _ _ b m p (rowOf m)]
  · pointwise
    simp only [ref_v30 h, ref_v32 h, ref_v28, ref_v29, ← EReal.coe_mul, sum_coe, ← EReal.coe_sub]
    rfl
  · have e := ref_rows V0 m
    rw [← e]
    pointwise

theorem ref_v77 (h : RefArgs V0 X Hr Hi) (b : Fin 32) (m : Fin 512) (p : Fin 256) (w : Fin 3) :
    (res_main_v77 V0 : FVec Ideal S32x512x256x3 .f32) (ix4 b m p w) = ((prodR (X b) Hr Hi m w p : ℝ) : EReal) := by
  unfold res_main_v77
  pointwise
  simp only [ref_v52 h, ref_v60 h, h.hr, h.hi, ← EReal.coe_mul, ← EReal.coe_sub]
  rfl

theorem ref_v86 (h : RefArgs V0 X Hr Hi) (b : Fin 32) (m : Fin 512) (p : Fin 256) (w : Fin 3) :
    (res_main_v86 V0 : FVec Ideal S32x512x256x3 .f32) (ix4 b m p w) = ((prodI (X b) Hr Hi m w p : ℝ) : EReal) := by
  unfold res_main_v86
  pointwise
  simp only [ref_v52 h, ref_v60 h, h.hr, h.hi, ← EReal.coe_mul, ← EReal.coe_add]
  rfl

/-- The turned product, real part. -/
def turnR (x : Fin 128 → Fin 256 → ℝ) (Hr Hi : Fin 512 → Fin 256 → Fin 3 → ℝ) (m : Fin 512) (w : Fin 3) (p : Fin 256) : ℝ :=
  prodR x Hr Hi m w p * Real.cos (beam w) - prodI x Hr Hi m w p * Real.sin (beam w)

/-- The turned product, imaginary part. -/
def turnI (x : Fin 128 → Fin 256 → ℝ) (Hr Hi : Fin 512 → Fin 256 → Fin 3 → ℝ) (m : Fin 512) (w : Fin 3) (p : Fin 256) : ℝ :=
  prodR x Hr Hi m w p * Real.sin (beam w) + prodI x Hr Hi m w p * Real.cos (beam w)

theorem ref_v93 (h : RefArgs V0 X Hr Hi) (b : Fin 32) (m : Fin 512) (p : Fin 256) (w : Fin 3) :
    (res_main_v93 V0 : FVec Ideal S32x512x256x3 .f32) (ix4 b m p w) = ((turnR (X b) Hr Hi m w p : ℝ) : EReal) := by
  unfold res_main_v93
  pointwise
  simp only [ref_v77 h, ref_v86 h, ref_v67, ref_v68, ← EReal.coe_mul, ← EReal.coe_sub]
  rfl

theorem ref_v100 (h : RefArgs V0 X Hr Hi) (b : Fin 32) (m : Fin 512) (p : Fin 256) (w : Fin 3) :
    (res_main_v100 V0 : FVec Ideal S32x512x256x3 .f32) (ix4 b m p w) = ((turnI (X b) Hr Hi m w p : ℝ) : EReal) := by
  unfold res_main_v100
  pointwise
  simp only [ref_v77 h, ref_v86 h, ref_v67, ref_v68, ← EReal.coe_mul, ← EReal.coe_add]
  rfl

theorem ref_v107 (h : RefArgs V0 X Hr Hi) (b : Fin 32) (m : Fin 512) (n : Fin 256) (w : Fin 3) :
    (res_main_v107 V0 : FVec Ideal S32x512x256x3 .f32) (ix4 b m n w)
      = ((invR (turnR (X b) Hr Hi m w) (turnI (X b) Hr Hi m w) n : ℝ) : EReal) := by
  unfold res_main_v107
  pointwise
  simp only [ref_v93 h, ref_v100 h, ref_v14, ref_v15, word_256, ← EReal.coe_mul, sum_coe, ← EReal.coe_sub]
  rw [div_coe_coe (by norm_num)]
  rfl

theorem ref_v114 (h : RefArgs V0 X Hr Hi) (b : Fin 32) (m : Fin 512) (n : Fin 256) (w : Fin 3) :
    (res_main_v114 V0 : FVec Ideal S32x512x256x3 .f32) (ix4 b m n w)
      = ((invI (turnR (X b) Hr Hi m w) (turnI (X b) Hr Hi m w) n : ℝ) : EReal) := by
  unfold res_main_v114
  pointwise
  simp only [ref_v93 h, ref_v100 h, ref_v14, ref_v15, word_256, ← EReal.coe_mul, sum_coe, ← EReal.coe_add]
  rw [div_coe_coe (by norm_num)]
  rfl

theorem ref_v128 (h : RefArgs V0 X Hr Hi) (b : Fin 32) (m : Fin 512) :
    (res_main_v128 V0 : FVec Ideal S32x512 .f32) (ix2 b m)
      = ((refTot guard beam (prodR (X b) Hr Hi m) (prodI (X b) Hr Hi m) : ℝ) : EReal) := by
  have hs : ∀ (n : Fin 256) (w : Fin 3), Ideal.sqrt
      (((invR (turnR (X b) Hr Hi m w) (turnI (X b) Hr Hi m w) n * invR (turnR (X b) Hr Hi m w) (turnI (X b) Hr Hi m w) n
        + invI (turnR (X b) Hr Hi m w) (turnI (X b) Hr Hi m w) n * invI (turnR (X b) Hr Hi m w) (turnI (X b) Hr Hi m w) n
        + guard : ℝ)) : EReal)
      = ((beamMod guard (beam w) (prodR (X b) Hr Hi m w) (prodI (X b) Hr Hi m w) n : ℝ) : EReal) := fun n w =>
    sqrt_coe_nonneg (add_nonneg (add_nonneg (mul_self_nonneg _) (mul_self_nonneg _)) guard_spec.2)
  have h256 : ∀ x : ℝ, Ideal.div (x : EReal) ((256 : ℝ) : EReal) = ((x / 256 : ℝ) : EReal) := div_coe_coe (by norm_num)
  have h3 : ∀ x : ℝ, Ideal.div (x : EReal) ((3 : ℝ) : EReal) = ((x / 3 : ℝ) : EReal) := div_coe_coe (by norm_num)
  unfold res_main_v128
  pointwise
  simp only [ref_v107 h, ref_v114 h, guard_spec.1, word_256, word_three, ← EReal.coe_mul, ← EReal.coe_add, hs, sum_coe, h256, h3]
  unfold refTot
  rw [mul_one]

/-- The threshold of the retrieval on an extended real: what is above the word of 0.3 stays, the rest becomes zero. -/
def thr (x : EReal) : EReal :=
  Scalar.select (α := EReal) (Ideal.cmp .ogt x (Ideal.ofBits .f32 0x3E99999A#32)) x 0

/-- THE REFERENCE'S RESULT at an index: the thresholded mean modulus. -/
theorem ref_result (h : RefArgs V0 X Hr Hi) (b : Fin 32) (m : Fin 512) :
    (shapeCast S32x1x512 (select (cmpf .ogt (res_main_v128 V0) (broadcastInDim S32x512 ![] bcast_S_S32x512 (constant S_ .f32 0x3E99999A#32)))
        (res_main_v128 V0) (broadcastInDim S32x512 ![] bcast_S_S32x512 (constant S_ .f32 0x00000000#32))) shapeCasts_S32x512_S32x1x512
        : FVec Ideal S32x1x512 .f32) (ix3 b 0 m)
      = thr ((refTot guard beam (prodR (X b) Hr Hi m) (prodI (X b) Hr Hi m) : ℝ) : EReal) := by
  unfold thr
  rw [← ref_v128 h b m]
  pointwise

end Cert.Holo

end
-- ==== Proof.KerStep.lean ====
/- What one grid step computes, read at an index, at operands that hold real numbers: the transformed block, and the
   sums of guarded moduli of one group of 256 columns. -/
module

public import proofs.«01_k».proof.Proof.RefRead
public import proofs.«01_k».proof.Proof.Gen.KernelIdeal.Skeleton

@[expose] public section

set_option maxRecDepth 16384

noncomputable section

namespace Cert.Holo

open Idealize.ShloMosaic Cert.KernelIdeal Cert.KernelIdeal.Gen
open scoped BigOperators

/-- Column `j` of the left half of a table of 256 columns. -/
def lo (j : Fin 128) : Fin 256 := ⟨j.val, by omega⟩
/-- Column `j` of its right half. -/
def hi (j : Fin 128) : Fin 256 := ⟨128 + j.val, by omega⟩
/-- The column of its half a column is. -/
def half (l : Fin 256) : Fin 128 := ⟨l.val % 128, Nat.mod_lt _ (by norm_num)⟩

/-- The block and the tables of the forward transform that one step reads hold these real numbers. -/
structure FwdArgs (q : Vec Ideal S1x128x256 .f32) (fr fi : Vec Ideal S256x256 .f32) (c1 c2 : Vec Ideal S128x256 .f32)
    (x : Fin 128 → Fin 256 → ℝ) : Prop where
  hq : ∀ r p, q (ix3 0 r p) = ((x r p : ℝ) : EReal)
  hfr : ∀ k p : Fin 256, fr (ix2 k p) = ((cs 256 k p : ℝ) : EReal)
  hfi : ∀ k p : Fin 256, fi (ix2 k p) = ((-sn 256 k p : ℝ) : EReal)
  h1l : ∀ r j : Fin 128, c1 (ix2 r (lo j)) = ((cs 128 r j : ℝ) : EReal)
  h1h : ∀ r j : Fin 128, c1 (ix2 r (hi j)) = ((-sn 128 r j : ℝ) : EReal)
  h2l : ∀ r j : Fin 128, c2 (ix2 r (lo j)) = ((-sn 128 r j : ℝ) : EReal)
  h2h : ∀ r j : Fin 128, c2 (ix2 r (hi j)) = ((cs 128 r j : ℝ) : EReal)

variable {q : Vec Ideal S1x128x256 .f32} {fr fi : Vec Ideal S256x256 .f32} {c1 c2 : Vec Ideal S128x256 .f32}
  {x : Fin 128 → Fin 256 → ℝ}

theorem pay15_lo (h : FwdArgs q fr fi c1 c2 x) (k : Fin 256) (j : Fin 128) :
    (k0_pay15 (F := Ideal) q fr c1 : FVec Ideal S256x256 .f32) (ix2 k (lo j))
      = ((∑ r : Fin 128, (∑ p : Fin 256, cs 256 k p * x r p) * cs 128 r j : ℝ) : EReal) := by
  pointwise [k0_pay15, k0_pay14]
  simp only [h.hq, h.hfr, h.h1l, ← EReal.coe_mul, sum_coe]

theorem pay15_hi (h : FwdArgs q fr fi c1 c2 x) (k : Fin 256) (j : Fin 128) :
    (k0_pay15 (F := Ideal) q fr c1 : FVec Ideal S256x256 .f32) (ix2 k (hi j))
      = ((∑ r : Fin 128, (∑ p : Fin 256, cs 256 k p * x r p) * -sn 128 r j : ℝ) : EReal) := by
  pointwise [k0_pay15, k0_pay14]
  simp only [h.hq, h.hfr, h.h1h, ← EReal.coe_mul, sum_coe]

theorem pay16_lo (h : FwdArgs q fr fi c1 c2 x) (k : Fin 256) (j : Fin 128) :
    (k0_pay16 (F := Ideal) q fi c2 : FVec Ideal S256x256 .f32) (ix2 k (lo j))
      = ((∑ r : Fin 128, (∑ p : Fin 256, -sn 256 k p * x r p) * -sn 128 r j : ℝ) : EReal) := by
  pointwise [k0_pay16, k0_pay14]
  simp only [h.hq, h.hfi, h.h2l, ← EReal.coe_mul, sum_coe]

theorem pay16_hi (h : FwdArgs q fr fi c1 c2 x) (k : Fin 256) (j : Fin 128) :
    (k0_pay16 (F := Ideal) q fi c2 : FVec Ideal S256x256 .f32) (ix2 k (hi j))
      = ((∑ r : Fin 128, (∑ p : Fin 256, -sn 256 k p * x r p) * cs 128 r j : ℝ) : EReal) := by
  pointwise [k0_pay16, k0_pay14]
  simp only [h.hq, h.hfi, h.h2h, ← EReal.coe_mul, sum_coe]

/-- The transformed block, real part: both halves hold the same 128 columns. -/
theorem pay17_at (h : FwdArgs q fr fi c1 c2 x) (k l : Fin 256) :
    (k0_pay17 (F := Ideal) q fr fi c1 c2 : FVec Ideal S256x256 .bf16) (ix2 k l) = ((stepR x k (half l) : ℝ) : EReal) := by
  have e : ∀ j : Fin 128, (k0_pay15 (F := Ideal) q fr c1 : FVec Ideal S256x256 .f32) (ix2 k (lo j))
      - (k0_pay16 (F := Ideal) q fi c2 : FVec Ideal S256x256 .f32) (ix2 k (lo j)) = ((stepR x k j : ℝ) : EReal) := fun j => by
    rw [pay15_lo h, pay16_lo h, ← EReal.coe_sub]; rfl
  rw [← e (half l)]
  pointwise [k0_pay17]
  split
  · have hl : half l = ⟨l.val, by assumption⟩ := Fin.ext (Nat.mod_eq_of_lt (by assumption))
    rw [hl]; rfl
  · have hl : half l = ⟨l.val - 128, by omega⟩ := Fin.ext (by show l.val % 128 = l.val - 128; omega)
    rw [hl]; rfl

/-- The transformed block, imaginary part. -/
theorem pay18_at (h : FwdArgs q fr fi c1 c2 x) (k l : Fin 256) :
    (k0_pay18 (F := Ideal) q fr fi c1 c2 : FVec Ideal S256x256 .bf16) (ix2 k l) = ((stepI x k (half l) : ℝ) : EReal) := by
  have e : ∀ j : Fin 128, (k0_pay15 (F := Ideal) q fr c1 : FVec Ideal S256x256 .f32) (ix2 k (hi j))
      + (k0_pay16 (F := Ideal) q fi c2 : FVec Ideal S256x256 .f32) (ix2 k (hi j)) = ((stepI x k j : ℝ) : EReal) := fun j => by
    rw [pay15_hi h, pay16_hi h, ← EReal.coe_add]; rfl
  rw [← e (half l)]
  pointwise [k0_pay18]
  split
  · have hl : half l = ⟨l.val, by assumption⟩ := Fin.ext (Nat.mod_eq_of_lt (by assumption))
    rw [hl]; rfl
  · have hl : half l = ⟨l.val - 128, by omega⟩ := Fin.ext (by show l.val % 128 = l.val - 128; omega)
    rw [hl]; rfl

/-! ## One group of 256 columns -/

/-- The transformed block `a`, `b`, the tables of the inverse transform and one group's memory columns `u`, `v` hold
    these real numbers. -/
structure PairArgs (A B G1 G2 G3 U W : FVec Ideal S256x256 .bf16) (a b u v : Fin 256 → Fin 256 → ℝ) : Prop where
  hA : ∀ k l, A (ix2 k l) = ((a k l : ℝ) : EReal)
  hB : ∀ k l, B (ix2 k l) = ((b k l : ℝ) : EReal)
  h1 : ∀ n k : Fin 256, G1 (ix2 n k) = ((cs 256 n k * (1 / 256) : ℝ) : EReal)
  h2 : ∀ n k : Fin 256, G2 (ix2 n k) = ((sn 256 n k * (1 / 256) : ℝ) : EReal)
  h3 : ∀ n k : Fin 256, G3 (ix2 n k) = ((cs 256 n k * (1 / 256) + sn 256 n k * (1 / 256) : ℝ) : EReal)
  hU : ∀ k l, U (ix2 k l) = ((u k l : ℝ) : EReal)
  hW : ∀ k l, W (ix2 k l) = ((v k l : ℝ) : EReal)

/-- Column `l` of the product with the memory, real part. -/
def colR (a b u v : Fin 256 → Fin 256 → ℝ) (l k : Fin 256) : ℝ := mulR (a k l) (b k l) (u k l) (v k l)
/-- Column `l` of the product with the memory, imaginary part. -/
def colI (a b u v : Fin 256 → Fin 256 → ℝ) (l k : Fin 256) : ℝ := mulI (a k l) (b k l) (u k l) (v k l)

variable {A B G1 G2 G3 U W : FVec Ideal S256x256 .bf16} {a b u v : Fin 256 → Fin 256 → ℝ}

/-- What stands under the root, of one group. -/
theorem pay23_at (h : PairArgs A B G1 G2 G3 U W a b u v) (n l : Fin 256) :
    (k0_pay23 (F := Ideal) A B G1 G2 G3 U W : FVec Ideal S256x256 .f32) (ix2 n l)
      = ((stepSq guard (colR a b u v l) (colI a b u v l) n : ℝ) : EReal) := by
  pointwise [k0_pay23]
  simp only [h.hA, h.hB, h.h1, h.h2, h.h3, h.hU, h.hW, guard_spec.1, ← EReal.coe_mul, ← EReal.coe_add, ← EReal.coe_sub, sum_coe]
  rfl

theorem root_at (zr zi : Fin 256 → ℝ) (n : Fin 256) :
    ((stepSq guard zr zi n : ℝ) : EReal) * Ideal.rsqrt ((stepSq guard zr zi n : ℝ) : EReal)
      = ((Real.sqrt (stepSq guard zr zi n) : ℝ) : EReal) :=
  mul_rsqrt_coe (stepSq_nonneg guard_spec.2 zr zi n)

/-- THE SUMS OF ONE GROUP: the guarded moduli of each column, summed. -/
theorem pay25_at (h : PairArgs A B G1 G2 G3 U W a b u v) (l : Fin 256) :
    (k0_pay25 (F := Ideal) (k0_pay23 A B G1 G2 G3 U W) (k0_pay24 A B G1 G2 G3 U W) : FVec Ideal S256 .f32) (ix1 l)
      = ((stepSum guard (colR a b u v l) (colI a b u v l) : ℝ) : EReal) := by
  pointwise [k0_pay25, k0_pay24]
  simp only [pay23_at h, root_at, sum_coe]
  rfl

theorem pay22_eq (A B G1 G2 G3 U W : FVec Ideal S256x256 .bf16) :
    k0_pay22 A B G1 G2 G3 U W = k0_pay25 (k0_pay23 A B G1 G2 G3 U W) (k0_pay24 A B G1 G2 G3 U W) := rfl

theorem pay26_eq (A B G1 G2 G3 U W : FVec Ideal S256x256 .bf16) :
    k0_pay26 A B G1 G2 G3 U W = k0_pay25 (k0_pay23 A B G1 G2 G3 U W) (k0_pay24 A B G1 G2 G3 U W) := rfl

theorem pay28_eq (A B G1 G2 G3 U W : FVec Ideal S256x256 .bf16) :
    k0_pay28 (k0_pay27 A B G1 G2 G3 U W) = k0_pay25 (k0_pay23 A B G1 G2 G3 U W) (k0_pay24 A B G1 G2 G3 U W) := rfl

theorem pay29_eq (A B G1 G2 G3 U W : FVec Ideal S256x256 .bf16) :
    k0_pay29 A B G1 G2 G3 U W = k0_pay25 (k0_pay23 A B G1 G2 G3 U W) (k0_pay24 A B G1 G2 G3 U W) := rfl

end Cert.Holo

end
-- ==== Proof.KerOut.lean ====
/- The last part of a grid step read at an index: the six groups' sums regrouped into the three beams' means, the
   threshold. -/
module

public import proofs.«01_k».proof.Proof.KerStep

@[expose] public section

set_option maxRecDepth 16384

noncomputable section

namespace Cert.Holo

open Idealize.ShloMosaic Cert.KernelIdeal Cert.KernelIdeal.Gen
open scoped BigOperators

/-- The column of its group an entry of the memory is. -/
def mcol (m : Fin 512) : Fin 256 := ⟨m.val % 256, Nat.mod_lt _ (by norm_num)⟩

/-- The group of entry `m` for beam `w`, of the six groups. -/
def grp (w : Fin 3) (m : Fin 512) : Fin 6 := ⟨2 * w.val + m.val / 256, by omega⟩

/-- The last group's product pieces, put together, are the last group's sums. -/
theorem pay1_eq (v0 v1 v2 v3 v4 : FVec Ideal S256 .f32) (A B G1 G2 G3 U W : FVec Ideal S256x256 .bf16) :
    k0_pay1 v0 v1 v2 v3 v4 (k0_pay33 A B G2 U W) (k0_pay34 A B G1 G2 U W) (k0_pay35 A B G1 G3 U W)
      = (let v172 : FVec Ideal S1536 .f32 := concatenate S1536 0 [⟨S256, v0⟩, ⟨S256, v1⟩, ⟨S256, v2⟩, ⟨S256, v3⟩, ⟨S256, v4⟩,
            ⟨S256, k0_pay25 (k0_pay23 A B G1 G2 G3 U W) (k0_pay24 A B G1 G2 G3 U W)⟩] concatenates_S256_S256_S256_S256_S256_S256_S1536_d0
         let v179 : FVec Ideal S512 .f32 := mulf (addf (addf (extractStridedSlice S512 ![0] v172 slices_S1536_o0_S512)
            (extractStridedSlice S512 ![512] v172 slices_S1536_o512_S512)) (extractStridedSlice S512 ![1024] v172 slices_S1536_o1024_S512))
            (broadcast S512 (Named.named κ "inv_768" 0x3AAAAAAB#32 : Ideal .f32))
         shapeCast S1x1x512 (select (cmpf .ogt v179 (broadcast S512 (Scalar.ofBits .f32 0x3E99999A#32 : Ideal .f32))) v179
            (broadcast S512 (Scalar.ofBits .f32 0x00000000#32 : Ideal .f32))) shapeCasts_S512_S1x1x512) := rfl

/-- Six vectors of 256 entries joined, read at an index: the vector the index lies in, at its place there. -/
theorem join6 (v : Fin 6 → FVec Ideal S256 .f32) (i : Fin 1536) :
    (concatenate S1536 0 [⟨S256, v 0⟩, ⟨S256, v 1⟩, ⟨S256, v 2⟩, ⟨S256, v 3⟩, ⟨S256, v 4⟩, ⟨S256, v 5⟩]
        concatenates_S256_S256_S256_S256_S256_S256_S1536_d0 : FVec Ideal S1536 .f32) (ix1 i)
      = v ⟨i.val / 256, by omega⟩ (ix1 ⟨i.val % 256, Nat.mod_lt _ (by norm_num)⟩) := by
  have key : ∀ (g : Fin 6) (j : ℕ) (hj : j < 256), j + 256 * g.val = i.val →
      v g (ix1 ⟨j, hj⟩) = v ⟨i.val / 256, by omega⟩ (ix1 ⟨i.val % 256, Nat.mod_lt _ (by norm_num)⟩) := by
    intro g j hj h
    have e1 : g = ⟨i.val / 256, by omega⟩ := Fin.ext (by show g.val = i.val / 256; omega)
    have e2 : (⟨j, hj⟩ : Fin 256) = ⟨i.val % 256, Nat.mod_lt _ (by norm_num)⟩ :=
      Fin.ext (by show j = i.val % 256; omega)
    rw [e2]; exact congrArg (fun z => v z _) e1
  pointwise
  split
  · exact key 0 _ _ (by show i.val + 256 * 0 = i.val; omega)
  split
  · exact key 1 _ _ (by show i.val - 256 + 256 * 1 = i.val; omega)
  split
  · exact key 2 _ _ (by show i.val - 256 - 256 + 256 * 2 = i.val; omega)
  split
  · exact key 3 _ _ (by show i.val - 256 - 256 - 256 + 256 * 3 = i.val; omega)
  split
  · exact key 4 _ _ (by show i.val - 256 - 256 - 256 - 256 + 256 * 4 = i.val; omega)
  · exact key 5 _ _ (by show i.val - 256 - 256 - 256 - 256 - 256 + 256 * 5 = i.val; omega)

/-- The named constant is 1/768. -/
theorem inv_768_eq : (Named.named κ "inv_768" 0x3AAAAAAB#32 : Ideal .f32) = ((1 / 768 : ℝ) : EReal) := rfl

/-- THE STEP'S RESULT at an index: the threshold of the kernel's mean of the six groups' sums. -/
theorem pay1_at (s : Fin 6 → Fin 256 → ℝ) (v : Fin 6 → FVec Ideal S256 .f32)
    (hv : ∀ g l, v g (ix1 l) = ((s g l : ℝ) : EReal))
    (A B G1 G2 G3 U W : FVec Ideal S256x256 .bf16)
    (h5 : v 5 = k0_pay25 (k0_pay23 A B G1 G2 G3 U W) (k0_pay24 A B G1 G2 G3 U W)) (m : Fin 512) :
    (k0_pay1 (F := Ideal) (v 0) (v 1) (v 2) (v 3) (v 4) (k0_pay33 A B G2 U W) (k0_pay34 A B G1 G2 U W) (k0_pay35 A B G1 G3 U W)
        : FVec Ideal S1x1x512 .f32) (ix3 0 0 m)
      = thr (((s (grp 0 m) (mcol m) + s (grp 1 m) (mcol m) + s (grp 2 m) (mcol m)) * (1 / 768) : ℝ) : EReal) := by
  rw [pay1_eq, ← h5]
  have e : ∀ w : Fin 3, (concatenate S1536 0 [⟨S256, v 0⟩, ⟨S256, v 1⟩, ⟨S256, v 2⟩, ⟨S256, v 3⟩, ⟨S256, v 4⟩, ⟨S256, v 5⟩]
        concatenates_S256_S256_S256_S256_S256_S256_S1536_d0 : FVec Ideal S1536 .f32) (ix1 ⟨512 * w.val + m.val, by omega⟩)
      = ((s (grp w m) (mcol m) : ℝ) : EReal) := by
    intro w
    rw [join6, hv]
    congr 2
    · exact Fin.ext (by show (512 * w.val + m.val) / 256 = 2 * w.val + m.val / 256; omega)
    · exact Fin.ext (by show (512 * w.val + m.val) % 256 = m.val % 256; omega)
  generalize (concatenate S1536 0 [⟨S256, v 0⟩, ⟨S256, v 1⟩, ⟨S256, v 2⟩, ⟨S256, v 3⟩, ⟨S256, v 4⟩, ⟨S256, v 5⟩]
        concatenates_S256_S256_S256_S256_S256_S256_S1536_d0 : FVec Ideal S1536 .f32) = J at e ⊢
  have e0 : J (ix1 ⟨m.val, by omega⟩) = ((s (grp 0 m) (mcol m) : ℝ) : EReal) := by
    rw [← e 0]; exact congrArg (fun z => J (ix1 z)) (Fin.ext (by show m.val = 512 * 0 + m.val; omega))
  have e1 : J (ix1 ⟨512 + m.val, by omega⟩) = ((s (grp 1 m) (mcol m) : ℝ) : EReal) := e 1
  have e2 : J (ix1 ⟨1024 + m.val, by omega⟩) = ((s (grp 2 m) (mcol m) : ℝ) : EReal) := e 2
  unfold thr
  rw [EReal.coe_mul, EReal.coe_add, EReal.coe_add, ← e0, ← e1, ← e2, ← inv_768_eq]
  dsimp only
  pointwise

end Cert.Holo

end
-- ==== Proof.KerTables.lean ====
/- The arrays the kernel's launch finds, read at an index: the Fourier tables, the stimulus and the memory, laid out as
   the launch reads them. -/
module

public import proofs.«01_k».proof.Proof.KerOut
public import proofs.«01_k».proof.Proof.Gen.KernelIdeal.Value
public import Idealize.ShloMosaic.Lib.StableHlo.ReadAt

@[expose] public section

set_option maxRecDepth 16384

noncomputable section

namespace Cert.Holo

open Idealize.ShloMosaic Cert.KernelIdeal Cert.KernelIdeal.Gen
open scoped BigOperators

variable (m : (ℓ : Loc nD τ sig) → Buf (Elt Ideal) ℓ) (c : Dev nD)

/-- The angle table of order 256, as the kernel's host writes it: the index product times π/128. -/
theorem ang_256 (i j : Fin 256) : (FloatOps.sitofp .f32 (IntOp.muli (BitVec.ofNat 32 i.val) (BitVec.ofNat 32 j.val)) : Ideal .f32)
      * (Ideal.acos (Ideal.ofBits .f32 0xBF800000#32) * Ideal.ofBits .f32 0x3C000000#32) = ((ang 256 i j : ℝ) : EReal) := by
  rw [sitofp_mul_small i.val j.val (by omega) (by omega), word_neg_one, acos_neg_one, word_inv_128, ← EReal.coe_mul]
  refine (EReal.coe_mul _ _).symm.trans (congrArg _ ?_)
  unfold ang; push_cast; ring

/-- The angle table of order 128: the index product times π/64. -/
theorem ang_128 (i j : Fin 128) : (FloatOps.sitofp .f32 (IntOp.muli (BitVec.ofNat 32 i.val) (BitVec.ofNat 32 j.val)) : Ideal .f32)
      * (Ideal.acos (Ideal.ofBits .f32 0xBF800000#32) * Ideal.ofBits .f32 0x3C800000#32) = ((ang 128 i j : ℝ) : EReal) := by
  rw [sitofp_mul_small i.val j.val (by omega) (by omega), word_neg_one, acos_neg_one, word_inv_64, ← EReal.coe_mul]
  refine (EReal.coe_mul _ _).symm.trans (congrArg _ ?_)
  unfold ang; push_cast; ring

theorem cos_ang (n i j : ℕ) : Ideal.cos ((ang n i j : ℝ) : EReal) = ((cs n i j : ℝ) : EReal) := rfl
theorem sin_ang (n i j : ℕ) : Ideal.sin ((ang n i j : ℝ) : EReal) = ((sn n i j : ℝ) : EReal) := rfl

/-! ## The tables -/

theorem ker_v21 (i j : Fin 256) : (V m c main_v21 : FVec Ideal S256x256 .f32) (ix2 i j) = ((cs 256 i j : ℝ) : EReal) := by
  unfold V
  after_reads_at
  rw [ang_256, cos_ang]

theorem ker_v23 (i j : Fin 256) : (V m c main_v23 : FVec Ideal S256x256 .f32) (ix2 i j) = ((-sn 256 i j : ℝ) : EReal) := by
  unfold V
  after_reads_at
  rw [ang_256, sin_ang, ← EReal.coe_neg]

theorem lo_lt (j : Fin 128) : (lo j).val < 128 := j.isLt
theorem hi_ge (j : Fin 128) : ¬(hi j).val < 128 := by show ¬(128 + j.val < 128); omega
theorem hi_sub (j : Fin 128) : (hi j).val - 128 = j.val := by show 128 + j.val - 128 = j.val; omega

theorem ker_v36_lo (r j : Fin 128) : (V m c main_v36 : FVec Ideal S128x256 .f32) (ix2 r (lo j)) = ((cs 128 r j : ℝ) : EReal) := by
  unfold V
  after_reads_at
  rw [dif_pos (lo_lt j)]
  exact (congrArg Ideal.cos (ang_128 r j)).trans (cos_ang 128 r j)

theorem ker_v36_hi (r j : Fin 128) : (V m c main_v36 : FVec Ideal S128x256 .f32) (ix2 r (hi j)) = ((-sn 128 r j : ℝ) : EReal) := by
  unfold V
  after_reads_at
  rw [dif_neg (hi_ge j), hi_sub, ang_128, sin_ang, ← EReal.coe_neg]

theorem ker_v37_lo (r j : Fin 128) : (V m c main_v37 : FVec Ideal S128x256 .f32) (ix2 r (lo j)) = ((-sn 128 r j : ℝ) : EReal) := by
  unfold V
  after_reads_at
  rw [dif_pos (lo_lt j), EReal.coe_neg]
  exact congrArg Neg.neg ((congrArg Ideal.sin (ang_128 r j)).trans (sin_ang 128 r j))

theorem ker_v37_hi (r j : Fin 128) : (V m c main_v37 : FVec Ideal S128x256 .f32) (ix2 r (hi j)) = ((cs 128 r j : ℝ) : EReal) := by
  unfold V
  after_reads_at
  rw [dif_neg (hi_ge j), hi_sub, ang_128, cos_ang]

theorem ker_v38 (i j : Fin 256) : (V m c main_v38 : FVec Ideal S256x256 .bf16) (ix2 i j) = ((cs 256 i j * (1 / 256) : ℝ) : EReal) := by
  unfold V
  after_reads_at
  rw [ang_256, cos_ang, word_inv_256, ← EReal.coe_mul]

theorem ker_v39 (i j : Fin 256) : (V m c main_v39 : FVec Ideal S256x256 .bf16) (ix2 i j) = ((sn 256 i j * (1 / 256) : ℝ) : EReal) := by
  unfold V
  after_reads_at
  rw [ang_256, sin_ang, word_inv_256, ← EReal.coe_mul]

theorem ker_v41 (i j : Fin 256) : (V m c main_v41 : FVec Ideal S256x256 .bf16) (ix2 i j)
    = ((cs 256 i j * (1 / 256) + sn 256 i j * (1 / 256) : ℝ) : EReal) := by
  unfold V
  after_reads_at
  rw [ang_256, cos_ang, sin_ang, word_inv_256, ← EReal.coe_mul, ← EReal.coe_mul, ← EReal.coe_add]

/-! ## The arguments, laid out -/

theorem ker_v31 (b : Fin 32) (r : Fin 128) (p : Fin 256) : (V m c main_v31 : FVec Ideal S32x128x256 .f32) (ix3 b r p)
    = (m (c.tc.loc main_arg0) : FVec Ideal S32x32768 .f32) (ix2 b (flat r p)) := by
  unfold V
  after_reads_at
  rfl

/-- Where the memory's entry of beam `w` lies among the kernel's 1536 rows. -/
def mrow (w : Fin 3) (e : Fin 512) : Fin 1536 := ⟨512 * w.val + e.val, by omega⟩

theorem ker_v33 (w : Fin 3) (e : Fin 512) (k : Fin 256) : (V m c main_v33 : FVec Ideal S1536x256 .f32) (ix2 (mrow w e) k)
    = (m (c.tc.loc main_arg1) : FVec Ideal S512x256x3 .f32) (ix3 e k w) := by
  unfold mrow V
  after_reads_at

theorem ker_v35 (w : Fin 3) (e : Fin 512) (k : Fin 256) : (V m c main_v35 : FVec Ideal S1536x256 .f32) (ix2 (mrow w e) k)
    = (m (c.tc.loc main_arg2) : FVec Ideal S512x256x3 .f32) (ix3 e k w) := by
  unfold mrow V
  after_reads_at

end Cert.Holo

end
-- ==== Proof.KerArray.lean ====
/- What the carried scratch and the result hold after the run. -/
module

public import proofs.«01_k».proof.Proof.KerTables
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Holo

open Idealize.ShloMosaic Cert.KernelIdeal Cert.KernelIdeal.Gen
open scoped BigOperators

variable (m : (ℓ : Loc nD τ sig) → Buf (Elt Ideal) ℓ) (c : Dev nD)

/-- Group `g` of a scratch's 1536 columns. -/
def tile (S : FVec Ideal S256x1536 .bf16) (g : Fin 6) : FVec Ideal S256x256 .bf16 :=
  fun i => S (ix2 (i 0) ⟨256 * g.val + (i 1).val, by have h : (i 1).val < 256 := (i 1).isLt; omega⟩)

/-- The memory's 1536 rows as columns. -/
def trn (X : FVec Ideal S1536x256 .f32) : FVec Ideal S256x1536 .bf16 := fun i => X (ix2 (i 1) (i 0))

/-- What a step stores, from the six groups `U`, `W` of the memory's columns: the threshold of their mean. -/
def stepOut (q : Vec Ideal S1x128x256 .f32) (fr fi : Vec Ideal S256x256 .f32) (c1 c2 : Vec Ideal S128x256 .f32)
    (g1 g2 g3 : Vec Ideal S256x256 .bf16) (U W : Fin 6 → FVec Ideal S256x256 .bf16) : FVec Ideal S1x1x512 .f32 :=
  let A := k0_pay17 (F := Ideal) q fr fi c1 c2
  let B := k0_pay18 (F := Ideal) q fr fi c1 c2
  let p := fun g => k0_pay25 (k0_pay23 A B (k0_pay19 g1) (k0_pay20 g2) (k0_pay21 g3) (U g) (W g))
    (k0_pay24 A B (k0_pay19 g1) (k0_pay20 g2) (k0_pay21 g3) (U g) (W g))
  k0_pay1 (p 0) (p 1) (p 2) (p 3) (p 4) (k0_pay33 A B (k0_pay20 g2) (U 5) (W 5))
    (k0_pay34 A B (k0_pay19 g1) (k0_pay20 g2) (U 5) (W 5)) (k0_pay35 A B (k0_pay19 g1) (k0_pay21 g3) (U 5) (W 5))

/-- A load of 256 columns of a scratch is the group there. -/
theorem ld_tile (S : FVec Ideal S256x1536 .bf16) (o : ℕ) (g : Fin 6) (ho : o = 256 * g.val) (h) :
    View.ld (Val := Elt Ideal) (S := S256x1536) (e' := .bf16) S (Rect.unit ![0, o] ![256, 256] h) = tile S g := by
  subst ho
  funext i
  unfold tile
  pointwise

/-- Six loads side by side are the six groups. -/
theorem ld_tiles (S : FVec Ideal S256x1536 .bf16) :
    ![View.ld (Val := Elt Ideal) (S := S256x1536) (e' := .bf16) S (Rect.unit ![0, 0] ![256, 256] inb_S256x1536_S256x256_0_0),
      View.ld (Val := Elt Ideal) (S := S256x1536) (e' := .bf16) S (Rect.unit ![0, 256] ![256, 256] inb_S256x1536_S256x256_0_256),
      View.ld (Val := Elt Ideal) (S := S256x1536) (e' := .bf16) S (Rect.unit ![0, 512] ![256, 256] inb_S256x1536_S256x256_0_512),
      View.ld (Val := Elt Ideal) (S := S256x1536) (e' := .bf16) S (Rect.unit ![0, 768] ![256, 256] inb_S256x1536_S256x256_0_768),
      View.ld (Val := Elt Ideal) (S := S256x1536) (e' := .bf16) S (Rect.unit ![0, 1024] ![256, 256] inb_S256x1536_S256x256_0_1024),
      View.ld (Val := Elt Ideal) (S := S256x1536) (e' := .bf16) S (Rect.unit ![0, 1280] ![256, 256] inb_S256x1536_S256x256_0_1280)] = tile S := by
  funext g
  fin_cases g
  · exact ld_tile S 0 0 rfl _
  · exact ld_tile S 256 1 rfl _
  · exact ld_tile S 512 2 rfl _
  · exact ld_tile S 768 3 rfl _
  · exact ld_tile S 1024 4 rfl _
  · exact ld_tile S 1280 5 rfl _

/-- A tile the first step stores: 256 rows of the memory, as columns. -/
theorem trn_tile (X : FVec Ideal S1536x256 .f32) (o : ℕ) (g : Fin 6) (ho : o = 256 * g.val) (h) :
    k0_pay2 (F := Ideal) (View.ld (Val := Elt Ideal) (S := S1536x256) (e' := .f32) X (Rect.unit ![o, 0] ![256, 256] h)) = tile (trn X) g := by
  subst ho
  funext i
  unfold tile trn
  pointwise [k0_pay2]

/-- Six such tiles side by side are the six groups of the columns. -/
theorem trn_tiles (X : FVec Ideal S1536x256 .f32) :
    ![k0_pay2 (F := Ideal) (View.ld (Val := Elt Ideal) (S := S1536x256) (e' := .f32) X (Rect.unit ![0, 0] ![256, 256] inb_S1536x256_S256x256_0_0)),
      k0_pay2 (F := Ideal) (View.ld (Val := Elt Ideal) (S := S1536x256) (e' := .f32) X (Rect.unit ![256, 0] ![256, 256] inb_S1536x256_S256x256_256_0)),
      k0_pay2 (F := Ideal) (View.ld (Val := Elt Ideal) (S := S1536x256) (e' := .f32) X (Rect.unit ![512, 0] ![256, 256] inb_S1536x256_S256x256_512_0)),
      k0_pay2 (F := Ideal) (View.ld (Val := Elt Ideal) (S := S1536x256) (e' := .f32) X (Rect.unit ![768, 0] ![256, 256] inb_S1536x256_S256x256_768_0)),
      k0_pay2 (F := Ideal) (View.ld (Val := Elt Ideal) (S := S1536x256) (e' := .f32) X (Rect.unit ![1024, 0] ![256, 256] inb_S1536x256_S256x256_1024_0)),
      k0_pay2 (F := Ideal) (View.ld (Val := Elt Ideal) (S := S1536x256) (e' := .f32) X (Rect.unit ![1280, 0] ![256, 256] inb_S1536x256_S256x256_1280_0))]
      = tile (trn X) := by
  funext g
  fin_cases g
  · exact trn_tile X 0 0 rfl _
  · exact trn_tile X 256 1 rfl _
  · exact trn_tile X 512 2 rfl _
  · exact trn_tile X 768 3 rfl _
  · exact trn_tile X 1024 4 rfl _
  · exact trn_tile X 1280 5 rfl _

theorem trn_read (X : FVec Ideal S1536x256 .f32) (o : ℕ) (h) (x : S256x256.Idx) (i : S256x1536.Idx)
    (h0 : (i 0 : ℕ) = x 0) (h1 : (i 1 : ℕ) = o + x 1) :
    k0_pay2 (F := Ideal) (View.ld (Val := Elt Ideal) (S := S1536x256) (e' := .f32) X (Rect.unit ![o, 0] ![256, 256] h)) x = trn X i := by
  unfold trn
  pointwise [k0_pay2]
  blk_ext

/-- The first step fills the first scratch with the memory's rows as columns. -/
theorem scr0_A (t : Fin cfg0.N) (h : t.val % 32 = 0) (i : S256x1536.Idx) :
    (outsAt0 m c t.val t.isLt).2.1 i = trn (iblk m c 1 t) i := by
  rw [outsAt0_A m c t h]
  frame_out
  canon_tiles x h
  all_goals exact trn_read (iblk m c 1 t) _ _ x i (by omega) (by omega)

/-- It fills the second scratch the same way. -/
theorem scr1_A (t : Fin cfg0.N) (h : t.val % 32 = 0) (i : S256x1536.Idx) :
    (outsAt0 m c t.val t.isLt).2.2 i = trn (iblk m c 2 t) i := by
  rw [outsAt0_A m c t h]
  frame_out
  canon_tiles x h
  all_goals exact trn_read (iblk m c 2 t) _ _ x i (by omega) (by omega)

theorem scr0_B (t : Fin cfg0.N) (h : ¬ t.val % 32 = 0) (i : S256x1536.Idx) :
    (outsAt0 m c t.val t.isLt).2.1 i = (outsAt0 m c (t.val - 1) (Nat.lt_of_le_of_lt (Nat.sub_le _ _) t.isLt)).2.1 i := by
  rw [outsAt0_B m c t h]
  rfl

theorem scr1_B (t : Fin cfg0.N) (h : ¬ t.val % 32 = 0) (i : S256x1536.Idx) :
    (outsAt0 m c t.val t.isLt).2.2 i = (outsAt0 m c (t.val - 1) (Nat.lt_of_le_of_lt (Nat.sub_le _ _) t.isLt)).2.2 i := by
  rw [outsAt0_B m c t h]
  rfl

/-- What a later step stores, over the scratch the step before left. -/
theorem out_B (t : Fin cfg0.N) (h : ¬ t.val % 32 = 0) :
    (outsAt0 m c t.val t.isLt).1 = stepOut (iblk m c 0 t) (iblk m c 3 t) (iblk m c 4 t) (iblk m c 5 t) (iblk m c 6 t)
      (iblk m c 7 t) (iblk m c 8 t) (iblk m c 9 t)
      (tile (outsAt0 m c (t.val - 1) (Nat.lt_of_le_of_lt (Nat.sub_le _ _) t.isLt)).2.1)
      (tile (outsAt0 m c (t.val - 1) (Nat.lt_of_le_of_lt (Nat.sub_le _ _) t.isLt)).2.2) := by
  rw [outsAt0_B m c t h, ← ld_tiles, ← ld_tiles]
  frame_out
  simp only [read_unread_whole]
  rfl

/-- What the first step stores, over the scratch it has just filled. -/
theorem out_A (t : Fin cfg0.N) (h : t.val % 32 = 0) :
    (outsAt0 m c t.val t.isLt).1 = stepOut (iblk m c 0 t) (iblk m c 3 t) (iblk m c 4 t) (iblk m c 5 t) (iblk m c 6 t)
      (iblk m c 7 t) (iblk m c 8 t) (iblk m c 9 t) (tile (trn (iblk m c 1 t))) (tile (trn (iblk m c 2 t))) := by
  rw [outsAt0_A m c t h, ← trn_tiles, ← trn_tiles]
  frame_open
  simp (disch := decide) only [↓ View.readCov_skip, ↓ View.readCov_cons_toLoadRect, ↓ View.readCov_fill]
  frame_out
  rfl

end Cert.Holo

end
-- ==== Proof.KerResult.lean ====
/- What the result holds after the run, at arguments that hold real numbers. -/
module

public import proofs.«01_k».proof.Proof.KerArray

@[expose] public section

set_option maxRecDepth 16384

noncomputable section

namespace Cert.Holo

open Idealize.ShloMosaic Cert.KernelIdeal Cert.KernelIdeal.Gen
open scoped BigOperators

variable (m : (ℓ : Loc nD τ sig) → Buf (Elt Ideal) ℓ) (c : Dev nD)

/-- Where each window's block lies: the stimulus and the result move with the step, the rest is read whole. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0, 0] :=
  (by decide +kernel : ∀ t : Fin grid0.N, _)

theorem blk_q (t : Fin cfg0.N) (r : Fin 128) (p : Fin 256) :
    (iblk m c 0 t : FVec Ideal S1x128x256 .f32) (ix3 0 r p) = (V m c main_v31 : FVec Ideal S32x128x256 .f32) (ix3 ⟨t.val, lt_of_lt_of_eq t.isLt N_0⟩ r p) := by
  blk_ext [iblk, idx t]

theorem blk_hr (t : Fin cfg0.N) (i : Fin 1536) (k : Fin 256) :
    (iblk m c 1 t : FVec Ideal S1536x256 .f32) (ix2 i k) = (V m c main_v33 : FVec Ideal S1536x256 .f32) (ix2 i k) := by
  blk_ext [iblk, idx t]

theorem blk_hi (t : Fin cfg0.N) (i : Fin 1536) (k : Fin 256) :
    (iblk m c 2 t : FVec Ideal S1536x256 .f32) (ix2 i k) = (V m c main_v35 : FVec Ideal S1536x256 .f32) (ix2 i k) := by
  blk_ext [iblk, idx t]

theorem blk_fr (t : Fin cfg0.N) (i j : Fin 256) :
    (iblk m c 3 t : FVec Ideal S256x256 .f32) (ix2 i j) = (V m c main_v21 : FVec Ideal S256x256 .f32) (ix2 i j) := by
  blk_ext [iblk, idx t]

theorem blk_fi (t : Fin cfg0.N) (i j : Fin 256) :
    (iblk m c 4 t : FVec Ideal S256x256 .f32) (ix2 i j) = (V m c main_v23 : FVec Ideal S256x256 .f32) (ix2 i j) := by
  blk_ext [iblk, idx t]

theorem blk_c1 (t : Fin cfg0.N) (i : Fin 128) (j : Fin 256) :
    (iblk m c 5 t : FVec Ideal S128x256 .f32) (ix2 i j) = (V m c main_v36 : FVec Ideal S128x256 .f32) (ix2 i j) := by
  blk_ext [iblk, idx t]

theorem blk_c2 (t : Fin cfg0.N) (i : Fin 128) (j : Fin 256) :
    (iblk m c 6 t : FVec Ideal S128x256 .f32) (ix2 i j) = (V m c main_v37 : FVec Ideal S128x256 .f32) (ix2 i j) := by
  blk_ext [iblk, idx t]

theorem blk_g1 (t : Fin cfg0.N) (i j : Fin 256) :
    (iblk m c 7 t : FVec Ideal S256x256 .bf16) (ix2 i j) = (V m c main_v38 : FVec Ideal S256x256 .bf16) (ix2 i j) := by
  blk_ext [iblk, idx t]

theorem blk_g2 (t : Fin cfg0.N) (i j : Fin 256) :
    (iblk m c 8 t : FVec Ideal S256x256 .bf16) (ix2 i j) = (V m c main_v39 : FVec Ideal S256x256 .bf16) (ix2 i j) := by
  blk_ext [iblk, idx t]

theorem blk_g3 (t : Fin cfg0.N) (i j : Fin 256) :
    (iblk m c 9 t : FVec Ideal S256x256 .bf16) (ix2 i j) = (V m c main_v41 : FVec Ideal S256x256 .bf16) (ix2 i j) := by
  blk_ext [iblk, idx t]

/-- The first scratch holds the memory's rows as columns after every step. -/
theorem held0 (t : Fin cfg0.N) (i : S256x1536.Idx) :
    (outsAt0 m c t.val t.isLt).2.1 i = trn (V m c main_v33) i :=
  Pipeline.eq_of_write_hold_apply (fun n h => (outsAt0 m c n h).2.1) 32 (fun _ => trn (V m c main_v33))
    (fun t h i => (scr0_A m c t h i).trans (blk_hr m c t (i 1) (i 0))) (fun t h i => scr0_B m c t h i) t i

/-- The second scratch the same. -/
theorem held1 (t : Fin cfg0.N) (i : S256x1536.Idx) :
    (outsAt0 m c t.val t.isLt).2.2 i = trn (V m c main_v35) i :=
  Pipeline.eq_of_write_hold_apply (fun n h => (outsAt0 m c n h).2.2) 32 (fun _ => trn (V m c main_v35))
    (fun t h i => (scr1_A m c t h i).trans (blk_hi m c t (i 1) (i 0))) (fun t h i => scr1_B m c t h i) t i

/-- What every step stores. -/
theorem out_at (t : Fin cfg0.N) :
    (outsAt0 m c t.val t.isLt).1 = stepOut (iblk m c 0 t) (iblk m c 3 t) (iblk m c 4 t) (iblk m c 5 t) (iblk m c 6 t)
      (iblk m c 7 t) (iblk m c 8 t) (iblk m c 9 t) (tile (trn (V m c main_v33))) (tile (trn (V m c main_v35))) := by
  by_cases h : t.val % 32 = 0
  · rw [out_A m c t h]
    have e1 : trn (iblk m c 1 t) = trn (V m c main_v33) := funext fun i => blk_hr m c t (i 1) (i 0)
    have e2 : trn (iblk m c 2 t) = trn (V m c main_v35) := funext fun i => blk_hi m c t (i 1) (i 0)
    rw [e1, e2]
  · rw [out_B m c t h]
    have e1 := funext (held0 m c ⟨t.val - 1, Nat.lt_of_le_of_lt (Nat.sub_le _ _) t.isLt⟩)
    have e2 := funext (held1 m c ⟨t.val - 1, Nat.lt_of_le_of_lt (Nat.sub_le _ _) t.isLt⟩)
    dsimp only at e1 e2
    rw [e1, e2]

end Cert.Holo

end
-- ==== Proof.KerValue.lean ====
/- The result array of the kernel, at arguments that hold real numbers: the thresholded mean modulus. -/
module

public import proofs.«01_k».proof.Proof.KerResult

@[expose] public section

set_option maxRecDepth 16384

noncomputable section

namespace Cert.Holo

open Idealize.ShloMosaic Cert.KernelIdeal Cert.KernelIdeal.Gen
open scoped BigOperators

variable (m : (ℓ : Loc nD τ sig) → Buf (Elt Ideal) ℓ) (c : Dev nD)

/-- The kernel's arguments hold these real numbers. -/
structure KerArgs (X : Fin 32 → Fin 128 → Fin 256 → ℝ) (Hr Hi : Fin 512 → Fin 256 → Fin 3 → ℝ) : Prop where
  hx : ∀ b r p, (m (c.tc.loc main_arg0) : FVec Ideal S32x32768 .f32) (ix2 b (flat r p)) = ((X b r p : ℝ) : EReal)
  hr : ∀ e p w, (m (c.tc.loc main_arg1) : FVec Ideal S512x256x3 .f32) (ix3 e p w) = ((Hr e p w : ℝ) : EReal)
  hi : ∀ e p w, (m (c.tc.loc main_arg2) : FVec Ideal S512x256x3 .f32) (ix3 e p w) = ((Hi e p w : ℝ) : EReal)

variable {m c} {X : Fin 32 → Fin 128 → Fin 256 → ℝ} {Hr Hi : Fin 512 → Fin 256 → Fin 3 → ℝ}

/-- The batch entry of a grid step. -/
def bat (t : Fin cfg0.N) : Fin 32 := ⟨t.val, lt_of_lt_of_eq t.isLt N_0⟩

/-- The step's blocks hold the stimulus of its batch entry and the Fourier tables. -/
theorem fwd_args (h : KerArgs m c X Hr Hi) (t : Fin cfg0.N) :
    FwdArgs (iblk m c 0 t) (iblk m c 3 t) (iblk m c 4 t) (iblk m c 5 t) (iblk m c 6 t) (X (bat t)) where
  hq r p := (blk_q m c t r p).trans ((ker_v31 m c _ r p).trans (h.hx _ r p))
  hfr k p := (blk_fr m c t k p).trans (ker_v21 m c k p)
  hfi k p := (blk_fi m c t k p).trans (ker_v23 m c k p)
  h1l r j := (blk_c1 m c t r (lo j)).trans (ker_v36_lo m c r j)
  h1h r j := (blk_c1 m c t r (hi j)).trans (ker_v36_hi m c r j)
  h2l r j := (blk_c2 m c t r (lo j)).trans (ker_v37_lo m c r j)
  h2h r j := (blk_c2 m c t r (hi j)).trans (ker_v37_hi m c r j)

/-- The entry of the memory that column `l` of group `g` belongs to. -/
def memE (g : Fin 6) (l : Fin 256) : Fin 512 := ⟨(256 * g.val + l.val) % 512, Nat.mod_lt _ (by norm_num)⟩
/-- The beam it belongs to. -/
def memW (g : Fin 6) (l : Fin 256) : Fin 3 := ⟨(256 * g.val + l.val) / 512, by omega⟩

theorem mrow_mem (g : Fin 6) (l : Fin 256) (h : 256 * g.val + l.val < 1536) :
    (⟨256 * g.val + l.val, h⟩ : Fin 1536) = mrow (memW g l) (memE g l) :=
  Fin.ext (by show 256 * g.val + l.val = 512 * ((256 * g.val + l.val) / 512) + (256 * g.val + l.val) % 512; omega)

theorem memE_grp (w : Fin 3) (e : Fin 512) : memE (grp w e) (mcol e) = e :=
  Fin.ext (by show (256 * (2 * w.val + e.val / 256) + e.val % 256) % 512 = e.val; omega)
theorem memW_grp (w : Fin 3) (e : Fin 512) : memW (grp w e) (mcol e) = w :=
  Fin.ext (by show (256 * (2 * w.val + e.val / 256) + e.val % 256) / 512 = w.val; omega)
theorem half_mcol (e : Fin 512) : half (mcol e) = rowOf e :=
  Fin.ext (by show e.val % 256 % 128 = e.val % 128; omega)

theorem tile_hr (h : KerArgs m c X Hr Hi) (g : Fin 6) (k l : Fin 256) :
    tile (trn (V m c main_v33)) g (ix2 k l) = ((Hr (memE g l) k (memW g l) : ℝ) : EReal) := by
  refine Eq.trans ?_ ((ker_v33 m c (memW g l) (memE g l) k).trans (h.hr _ _ _))
  rw [← mrow_mem g l (by omega)]
  rfl

theorem tile_hi (h : KerArgs m c X Hr Hi) (g : Fin 6) (k l : Fin 256) :
    tile (trn (V m c main_v35)) g (ix2 k l) = ((Hi (memE g l) k (memW g l) : ℝ) : EReal) := by
  refine Eq.trans ?_ ((ker_v35 m c (memW g l) (memE g l) k).trans (h.hi _ _ _))
  rw [← mrow_mem g l (by omega)]
  rfl

/-- What one group of a step works on. -/
theorem pair_args (h : KerArgs m c X Hr Hi) (t : Fin cfg0.N) (g : Fin 6) :
    PairArgs (k0_pay17 (F := Ideal) (iblk m c 0 t) (iblk m c 3 t) (iblk m c 4 t) (iblk m c 5 t) (iblk m c 6 t))
      (k0_pay18 (F := Ideal) (iblk m c 0 t) (iblk m c 3 t) (iblk m c 4 t) (iblk m c 5 t) (iblk m c 6 t))
      (k0_pay19 (iblk m c 7 t)) (k0_pay20 (iblk m c 8 t)) (k0_pay21 (iblk m c 9 t))
      (tile (trn (V m c main_v33)) g) (tile (trn (V m c main_v35)) g)
      (fun k l => stepR (X (bat t)) k (half l)) (fun k l => stepI (X (bat t)) k (half l))
      (fun k l => Hr (memE g l) k (memW g l)) (fun k l => Hi (memE g l) k (memW g l)) where
  hA := pay17_at (fwd_args h t)
  hB := pay18_at (fwd_args h t)
  h1 n k := by pointwise [k0_pay19]; exact (blk_g1 m c t n k).trans (ker_v38 m c n k)
  h2 n k := by pointwise [k0_pay20]; exact (blk_g2 m c t n k).trans (ker_v39 m c n k)
  h3 n k := by pointwise [k0_pay21]; exact (blk_g3 m c t n k).trans (ker_v41 m c n k)
  hU := tile_hr h g
  hW := tile_hi h g

theorem colR_eq (b : Fin 32) (w : Fin 3) (e : Fin 512) :
    colR (fun k l => stepR (X b) k (half l)) (fun k l => stepI (X b) k (half l))
      (fun k l => Hr (memE (grp w e) l) k (memW (grp w e) l)) (fun k l => Hi (memE (grp w e) l) k (memW (grp w e) l)) (mcol e)
      = prodR (X b) Hr Hi e w := by
  funext k
  unfold colR prodR
  dsimp only
  rw [memE_grp, memW_grp, half_mcol, stepR_eq, stepI_eq]

theorem colI_eq (b : Fin 32) (w : Fin 3) (e : Fin 512) :
    colI (fun k l => stepR (X b) k (half l)) (fun k l => stepI (X b) k (half l))
      (fun k l => Hr (memE (grp w e) l) k (memW (grp w e) l)) (fun k l => Hi (memE (grp w e) l) k (memW (grp w e) l)) (mcol e)
      = prodI (X b) Hr Hi e w := by
  funext k
  unfold colI prodI
  dsimp only
  rw [memE_grp, memW_grp, half_mcol, stepR_eq, stepI_eq]

/-- WHAT A STEP STORES at an index: the thresholded mean modulus of its batch entry. -/
theorem step_at (h : KerArgs m c X Hr Hi) (t : Fin cfg0.N) (e : Fin 512) :
    (outsAt0 m c t.val t.isLt).1 (ix3 0 0 e)
      = thr ((refTot guard beam (prodR (X (bat t)) Hr Hi e) (prodI (X (bat t)) Hr Hi e) : ℝ) : EReal) := by
  rw [out_at, refTot_eq]
  refine (pay1_at
    (fun g l => stepSum guard
      (colR (fun k l => stepR (X (bat t)) k (half l)) (fun k l => stepI (X (bat t)) k (half l))
        (fun k l => Hr (memE g l) k (memW g l)) (fun k l => Hi (memE g l) k (memW g l)) l)
      (colI (fun k l => stepR (X (bat t)) k (half l)) (fun k l => stepI (X (bat t)) k (half l))
        (fun k l => Hr (memE g l) k (memW g l)) (fun k l => Hi (memE g l) k (memW g l)) l))
    (fun g => k0_pay25
      (k0_pay23 (k0_pay17 (F := Ideal) (iblk m c 0 t) (iblk m c 3 t) (iblk m c 4 t) (iblk m c 5 t) (iblk m c 6 t))
        (k0_pay18 (F := Ideal) (iblk m c 0 t) (iblk m c 3 t) (iblk m c 4 t) (iblk m c 5 t) (iblk m c 6 t))
        (k0_pay19 (iblk m c 7 t)) (k0_pay20 (iblk m c 8 t)) (k0_pay21 (iblk m c 9 t))
        (tile (trn (V m c main_v33)) g) (tile (trn (V m c main_v35)) g))
      (k0_pay24 (k0_pay17 (F := Ideal) (iblk m c 0 t) (iblk m c 3 t) (iblk m c 4 t) (iblk m c 5 t) (iblk m c 6 t))
        (k0_pay18 (F := Ideal) (iblk m c 0 t) (iblk m c 3 t) (iblk m c 4 t) (iblk m c 5 t) (iblk m c 6 t))
        (k0_pay19 (iblk m c 7 t)) (k0_pay20 (iblk m c 8 t)) (k0_pay21 (iblk m c 9 t))
        (tile (trn (V m c main_v33)) g) (tile (trn (V m c main_v35)) g)))
    (fun g l => pay25_at (pair_args h t g) l) _ _ _ _ _ _ _ rfl e).trans ?_
  rw [colR_eq, colR_eq, colR_eq, colI_eq, colI_eq, colI_eq]
  rfl

/-- The same at any index of the block. -/
theorem step_at_idx (h : KerArgs m c X Hr Hi) (t : Fin cfg0.N) (y : S1x1x512.Idx) :
    (outsAt0 m c t.val t.isLt).1 y
      = thr ((refTot guard beam (prodR (X (bat t)) Hr Hi (y 2)) (prodI (X (bat t)) Hr Hi (y 2)) : ℝ) : EReal) := by
  refine Eq.trans (congrArg _ (funext fun a => ?_)) (step_at h t (y 2))
  fin_cases a
  · exact Subsingleton.elim (α := Fin 1) _ _
  · exact Subsingleton.elim (α := Fin 1) _ _
  · rfl

/-- THE RESULT ARRAY after the run. -/
theorem final_at (h : KerArgs m c X Hr Hi) :
    (dats m 0 c).arrAt 10 cfg0.N
      = fun i : S32x1x512.Idx => thr ((refTot guard beam (prodR (X (i 0)) Hr Hi (i 2)) (prodI (X (i 0)) Hr Hi (i 2)) : ℝ) : EReal) := by
  refine (dats m 0 c).arrAt_eq_of_covers 10 _ (by decide +kernel) fun t hf y => ?_
  blk_simp
  rw [after0_10]
  have e0 : (win0_10.blk t).view.emb y 0 = bat t := Fin.ext (by blk_simp [idx t]; rfl)
  have e2 : (win0_10.blk t).view.emb y 2 = (y 2 : Fin 512) := Fin.ext (by blk_simp [idx t])
  rw [e0, e2]
  exact step_at_idx h t y

end Cert.Holo

end
-- ==== Proof.Finite.lean ====
/- The precondition `finite` read at an index: each argument of the programs holds real numbers. -/
module

public import proofs.«01_k».proof.Proof.KerValue
public import proofs.«01_k».proof.Defs
public import Idealize.ShloMosaic.Lib.ReduceAll

@[expose] public section

set_option maxRecDepth 16384

noncomputable section

namespace Cert.Holo

open Idealize.ShloMosaic

/-- The shapes `finite` broadcasts and reduces are the ones it states. -/
theorem finite_facts : Cert.Pre_finite.Facts where
  bcast_S_S32x32768 := by decide
  reducesTo_S32x32768_S_d0_1 := by decide
  h_S_ := by decide
  bcast_S_S512x256x3 := by decide
  reducesTo_S512x256x3_S_d0_1_2 := by decide

/-- The word of plus infinity. -/
theorem word_inf : Ideal.ofBits .f32 0x7F800000#32 = ⊤ := by simp [Ideal.ofBits, Ideal.ieee]

/-- An extended real whose modulus compares below infinity is the real number it reads as. -/
theorem real_of_lt (x : EReal) (h : Ideal.cmp .olt (max x (-x)) (Ideal.ofBits .f32 0x7F800000#32) = 1#1) :
    x = ((x.toReal : ℝ) : EReal) := by
  rw [word_inf] at h
  have hlt : max x (-x) < ⊤ := by
    by_contra hn
    simp [Ideal.cmp, hn] at h
  refine (EReal.coe_toReal (fun e => ?_) (fun e => ?_)).symm
  · rw [e] at hlt; simp at hlt
  · rw [e] at hlt; simp at hlt

/-- Where `finite` says yes, every element of the three arrays is a real number. -/
theorem real_of_finite [Cert.Pre_finite.Facts] (x : FVec Ideal Cert.Pre_finite.S32x32768 .f32)
    (y z : FVec Ideal Cert.Pre_finite.S512x256x3 .f32) (h : Cert.Pre_finite.fn x y z = fun _ => 1#1) :
    (∀ i, (x i : EReal) = (((x i : EReal).toReal : ℝ) : EReal)) ∧ (∀ i, (y i : EReal) = (((y i : EReal).toReal : ℝ) : EReal))
      ∧ ∀ i, (z i : EReal) = (((z i : EReal).toReal : ℝ) : EReal) := by
  have h0 := congrFun h ix0
  dsimp only [Cert.Pre_finite.fn] at h0
  obtain ⟨h1, hz⟩ := IntOp.andi_eq_one.1 h0
  obtain ⟨hx, hy⟩ := IntOp.andi_eq_one.1 h1
  haveI : Subsingleton Cert.Pre_finite.S_.Idx := ⟨fun a b => funext fun k => k.elim0⟩
  exact ⟨fun i => real_of_lt _ (Host.reduce_andi_all _ _ _ _ _ hx i), fun i => real_of_lt _ (Host.reduce_andi_all _ _ _ _ _ hy i),
    fun i => real_of_lt _ (Host.reduce_andi_all _ _ _ _ _ hz i)⟩

end Cert.Holo

end
-- ==== Proof.Equation.lean ====
/- The claims: both programs run and leave their arguments, and their results are one array. -/
module

public import proofs.«01_k».proof.Proof.Finite

@[expose] public section

set_option maxRecDepth 16384

noncomputable section

namespace Cert.Holo

open Idealize.ShloMosaic Idealize.SL.Sem

/-- The kernel's precondition gives the real numbers its arguments hold. -/
theorem ker_args [Cert.Pre_finite.Facts]
    (m : (ℓ : Loc Cert.KernelIdeal.nD Cert.KernelIdeal.τ Cert.KernelIdeal.sig) → Buf (Elt Ideal) ℓ)
    (h : Cert.Pre_KernelIdeal_finite m) (c : Dev Cert.KernelIdeal.nD) : ∃ X Hr Hi, KerArgs m c X Hr Hi := by
  obtain ⟨hx, hr, hi⟩ := real_of_finite _ _ _ (h c)
  exact ⟨_, _, _, ⟨fun b r p => hx _, fun e p w => hr _, fun e p w => hi _⟩⟩

/-- A reference started on the same arguments holds the same real numbers. -/
theorem ref_args {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    {c : Dev Cert.KernelIdeal.nD} {X : Fin 32 → Fin 128 → Fin 256 → ℝ} {Hr Hi : Fin 512 → Fin 256 → Fin 3 → ℝ}
    (h : KerArgs m c X Hr Hi)
    (e0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    RefArgs (StableHlo.launchContents m' c) X Hr Hi where
  hx b r p := (congrFun e0 _).trans (h.hx b r p)
  hr e p w := (congrFun e1 _).trans (h.hr e p w)
  hi e p w := (congrFun e2 _).trans (h.hi e p w)

/-- An index of a result: batch entry, the single row, entry of the memory. -/
theorem result_idx (i : Cert.ReferenceIdeal.S32x1x512.Idx) : i = ix3 (i 0 : Fin 32) (0 : Fin 1) (i 2 : Fin 512) := by
  funext a
  fin_cases a
  · rfl
  · exact Subsingleton.elim (α := Fin 1) _ _
  · rfl

/-- An array read at an index is the array read at that triple. -/
theorem array_at (f : FVec Ideal Cert.ReferenceIdeal.S32x1x512 .f32) (i : Cert.ReferenceIdeal.S32x1x512.Idx) :
    f i = f (ix3 (i 0 : Fin 32) (0 : Fin 1) (i 2 : Fin 512)) := congrArg f (result_idx i)

open Cert.ReferenceIdeal Cert.ReferenceIdeal.Gen Cert.ReferenceIdeal.Value in
/-- THE RESULT ARRAY of the reference. -/
theorem ref_array {V0 : Valuation τ sig (Elt Ideal)} {X : Fin 32 → Fin 128 → Fin 256 → ℝ}
    {Hr Hi : Fin 512 → Fin 256 → Fin 3 → ℝ} (h : RefArgs V0 X Hr Hi) :
    (shapeCast S32x1x512 (select (cmpf .ogt (res_main_v128 V0) (broadcastInDim S32x512 ![] bcast_S_S32x512 (constant S_ .f32 0x3E99999A#32))) (res_main_v128 V0) (broadcastInDim S32x512 ![] bcast_S_S32x512 (constant S_ .f32 0x00000000#32))) shapeCasts_S32x512_S32x1x512
      : FVec Ideal S32x1x512 .f32)
      = fun i => thr ((refTot guard beam (prodR (X (i 0)) Hr Hi (i 2)) (prodI (X (i 0)) Hr Hi (i 2)) : ℝ) : EReal) := by
  funext i
  exact (array_at _ i).trans (ref_result h (i 0) (i 2))

/-- The idealised kernel and the reference end with equal results. -/
theorem algebraic [hP : Cert.Pre_finite.Facts] :
    Cert.algebraic_KernelIdeal_ReferenceIdeal_pre_finite (hKernelIdeal := Cert.KernelIdeal.Gen.facts)
      (hReferenceIdeal := Cert.ReferenceIdeal.Gen.facts) := by
  intro m g m' g' hpre hag
  refine ⟨fun c => (Cert.KernelIdeal.Gen.dats m 0 c).arrAt 10 Cert.KernelIdeal.cfg0.N,
    Cert.KernelIdeal.Value.run_blocks m g,
    (θ_run Cert.ReferenceIdeal.defs _ _).mono (fun r h c => ?_) (Cert.ReferenceIdeal.Value.run (F := Ideal) m' g')⟩
  refine ⟨(h c).1.trans ?_, (h c).2⟩
  obtain ⟨X, Hr, Hi, hk⟩ := ker_args m hpre c
  obtain ⟨e0, e1, e2⟩ := hag c
  exact (ref_array (ref_args hk e0 e1 e2)).trans (final_at hk).symm

/-- The reference runs, leaves its arguments and every counter at zero. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one constant the idealised kernel names. -/
theorem preserves : Cert.preserves_Kernel_KernelIdeal :=
  IdealRules.named_const.statement Cert.KernelIdeal.κ "inv_768" .f32 0x3AAAAAAB#32 ((1 / 768 : ℝ) : EReal) rfl

end Cert.Holo

end
-- ==== Proof.Guard.lean ====
/- What the guard under the root changes: the mean modulus grows by at most the guard's own root. -/
module

public import proofs.«01_k».proof.Proof.Equation

@[expose] public section

noncomputable section

namespace Cert.Holo

open scoped BigOperators

/-- The root of a sum is at most the sum of the roots. -/
theorem sqrt_add_le {a e : ℝ} (ha : 0 ≤ a) (he : 0 ≤ e) : Real.sqrt (a + e) ≤ Real.sqrt a + Real.sqrt e := by
  refine Real.sqrt_le_iff.2 ⟨add_nonneg (Real.sqrt_nonneg _) (Real.sqrt_nonneg _), ?_⟩
  nlinarith [Real.sq_sqrt ha, Real.sq_sqrt he, mul_nonneg (Real.sqrt_nonneg a) (Real.sqrt_nonneg e)]

/-- A modulus grows, under a guard, by at most the guard's root. -/
theorem beamMod_guard {e : ℝ} (he : 0 ≤ e) (φ : ℝ) (zr zi : Fin 256 → ℝ) (n : Fin 256) :
    beamMod 0 φ zr zi n ≤ beamMod e φ zr zi n ∧ beamMod e φ zr zi n ≤ beamMod 0 φ zr zi n + Real.sqrt e := by
  unfold beamMod
  refine ⟨Real.sqrt_le_sqrt (by linarith), ?_⟩
  rw [add_zero]
  exact sqrt_add_le (add_nonneg (mul_self_nonneg _) (mul_self_nonneg _)) he

/-- The reference's mean modulus with the guard lies between the mean modulus without it and that plus the guard's root. -/
theorem refTot_guard {e : ℝ} (he : 0 ≤ e) (φ : Fin 3 → ℝ) (zr zi : Fin 3 → Fin 256 → ℝ) :
    refTot 0 φ zr zi ≤ refTot e φ zr zi ∧ refTot e φ zr zi ≤ refTot 0 φ zr zi + Real.sqrt e := by
  have lo (w : Fin 3) : ∑ n : Fin 256, beamMod 0 (φ w) (zr w) (zi w) n ≤ ∑ n : Fin 256, beamMod e (φ w) (zr w) (zi w) n :=
    Finset.sum_le_sum fun n _ => (beamMod_guard he _ _ _ n).1
  have up (w : Fin 3) : ∑ n : Fin 256, beamMod e (φ w) (zr w) (zi w) n
      ≤ (∑ n : Fin 256, beamMod 0 (φ w) (zr w) (zi w) n) + 256 * Real.sqrt e := by
    refine (Finset.sum_le_sum fun n _ => (beamMod_guard he (φ w) (zr w) (zi w) n).2).trans_eq ?_
    simp [Finset.sum_add_distrib]
  unfold refTot
  simp only [Fin.sum_univ_three]
  constructor
  · linarith [lo 0, lo 1, lo 2]
  · linarith [up 0, up 1, up 2]

end Cert.Holo

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Guard
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Holo.finite_facts,
    fun m ρ _ => Cert.Kernel.Gen.frame m ρ, fun m ρ _ => Cert.KernelIdeal.Gen.frame m ρ,
    fun m ρ _ => Cert.KernelIdeal.Gen.frame m ρ, Cert.Holo.frame_ref,
    fun m ρ _ => Cert.Holo.frame_ref m ρ trivial, Cert.Holo.preserves,
    Cert.Holo.algebraic (hP := Cert.Holo.finite_facts)⟩

end Cert.Proof

end
